-- ==== Defs.lean ====
def Pre_Kernel [hPre_rows_in_table : Cert.Pre_rows_in_table.Facts] (m : (ℓ : Loc Cert.Kernel.nD Cert.Kernel.τ Cert.Kernel.sig) → Buf (Elt Bits) ℓ) : Prop :=
  ∀ c : Dev Cert.Kernel.nD,
    (Cert.Pre_rows_in_table.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rows_in_table : Cert.Pre_rows_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_table [hPre_rows_in_table : Cert.Pre_rows_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_rows_in_table : Cert.Pre_rows_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rows_in_table : Cert.Pre_rows_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rows_in_table [hReferenceIdeal : Cert.ReferenceIdeal.Facts] [hPre_rows_in_table : Cert.Pre_rows_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_in_table : Cert.Pre_rows_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_rows_in_table : Cert.Pre_rows_in_table.Facts),
    quiescent_Kernel (hKernel := hKernel) (hPre_rows_in_table := hPre_rows_in_table)
    ∧ quiescent_KernelIdeal (hKernelIdeal := hKernelIdeal) (hPre_rows_in_table := hPre_rows_in_table)
    ∧ quiescent_ReferenceIdeal (hReferenceIdeal := hReferenceIdeal)
    ∧ quiescent_ReferenceIdeal_pre_rows_in_table (hReferenceIdeal := hReferenceIdeal) (hPre_rows_in_table := hPre_rows_in_table)
    ∧ preserves_Kernel_KernelIdeal
    ∧ algebraic_KernelIdeal_ReferenceIdeal (hKernelIdeal := hKernelIdeal) (hReferenceIdeal := hReferenceIdeal) (hPre_rows_in_table := hPre_rows_in_table)
-- ==== Pre_rows_in_table.lean ====
abbrev S16384 : Shape := ⟨1, ![16384]⟩
abbrev S1000000x64 : Shape := ⟨2, ![1000000, 64]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : FVec F S1000000x64 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 1000000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384 : Shape := ⟨1, ![16384]⟩
abbrev S1000000x64 : Shape := ⟨2, ![1000000, 64]⟩
abbrev S_ : Shape := ⟨0, ![]⟩
abbrev S1000000x128 : Shape := ⟨2, ![1000000, 128]⟩
abbrev S16384x128 : Shape := ⟨2, ![16384, 128]⟩
abbrev S512 : Shape := ⟨1, ![512]⟩
abbrev S4x128 : Shape := ⟨2, ![4, 128]⟩
abbrev S512x128 : Shape := ⟨2, ![512, 128]⟩
abbrev S16 : Shape := ⟨1, ![16]⟩
abbrev S1x16 : Shape := ⟨2, ![1, 16]⟩
abbrev S128x128 : Shape := ⟨2, ![128, 128]⟩
abbrev S1x128 : Shape := ⟨2, ![1, 128]⟩
abbrev S128 : Shape := ⟨1, ![128]⟩
abbrev S16384x64 : Shape := ⟨2, ![16384, 64]⟩

abbrev nBuf : Table → Nat
  | .hbm => 7
  | .local .scVector .vmem => 3
  | _ => 0

abbrev bufTy : (tb : Table) → Fin (nBuf tb) → BufTy
  | .hbm, ⟨0, _⟩ => ⟨S16384, .i32⟩
  | .hbm, ⟨1, _⟩ => ⟨S1000000x64, .f32⟩
  | .hbm, ⟨2, _⟩ => ⟨S_, .f32⟩
  | .hbm, ⟨3, _⟩ => ⟨S1000000x64, .f32⟩
  | .hbm, ⟨4, _⟩ => ⟨S1000000x128, .f32⟩
  | .hbm, ⟨5, _⟩ => ⟨S16384x128, .f32⟩
  | .hbm, ⟨6, _⟩ => ⟨S16384x64, .f32⟩
  | .local .scVector .vmem, ⟨0, _⟩ => ⟨S512, .i32⟩
  | .local .scVector .vmem, ⟨1, _⟩ => ⟨S4x128, .i32⟩
  | .local .scVector .vmem, ⟨2, _⟩ => ⟨S512x128, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v1_scv : Ref sig .scVector := ⟨.hbm, 4, rfl⟩
abbrev main_arg0_scv : Ref sig .scVector := ⟨.hbm, 0, rfl⟩
abbrev main_v2_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k0_off2 (k0_t1 : Fin k0_t1_loop.trips) : Fin 1 → Nat :=
  let c0_i32_0 : BitVec 32 := 0#32
  let c1_i32 : BitVec 32 := 1#32
  let arg10 : BitVec 32 := Scf.iv c0_i32_0 c1_i32 k0_t1
  let c16_i32 : BitVec 32 := 16#32
  let v40 : BitVec 32 := Scalar.muli arg10 c16_i32
  let v41 : Index := Scalar.indexCast v40
  ![v41.toNat]
def k0_off3 (k0_t1 : Fin k0_t1_loop.trips) : Fin 2 → Nat :=
  let c0_i32_0 : BitVec 32 := 0#32
  let c1_i32 : BitVec 32 := 1#32
  let arg10 : BitVec 32 := Scf.iv c0_i32_0 c1_i32 k0_t1
  let c0_i32_50 : BitVec 32 := 0#32
  let v45 : BitVec 1 := Scalar.cmpi .sgt arg10 c0_i32_50
  let v46 : BitVec 32 := Scalar.extui v45
  let c0_i32_51 : BitVec 32 := 0#32
  let v47 : BitVec 1 := Scalar.cmpi .slt arg10 c0_i32_51
  let v48 : BitVec 32 := Scalar.extui v47
  let v49 : BitVec 32 := Scalar.subi v46 v48
  let c8_i32 : BitVec 32 := 8#32
  let c0_i32_52 : BitVec 32 := 0#32
  let v50 : BitVec 1 := Scalar.cmpi .sgt c8_i32 c0_i32_52
  let v51 : BitVec 32 := Scalar.extui v50
  let c0_i32_53 : BitVec 32 := 0#32
  let v52 : BitVec 1 := Scalar.cmpi .slt c8_i32 c0_i32_53
  let v53 : BitVec 32 := Scalar.extui v52
  let v54 : BitVec 32 := Scalar.subi v51 v53
  let v55 : BitVec 1 := Scalar.cmpi .ne v49 v54
  let v56 : BitVec 32 := Scalar.remsi arg10 c8_i32
  let c0_i32_54 : BitVec 32 := 0#32
  let v57 : BitVec 1 := Scalar.cmpi .ne v56 c0_i32_54
  let v58 : BitVec 1 := Scalar.andi v55 v57
  let v44 : BitVec 32 := Scalar.divsi arg10 c8_i32
  let c1_i32_55 : BitVec 32 := 1#32
  let v59 : BitVec 32 := Scalar.subi v44 c1_i32_55
  let v60 : BitVec 32 := Scalar.select v58 v59 v44
  let v72 : Index := Scalar.indexCast v60
  let c8_i32_56 : BitVec 32 := 8#32
  let c0_i32_57 : BitVec 32 := 0#32
  let v61 : BitVec 1 := Scalar.cmpi .eq c8_i32_56 c0_i32_57
  let c1_i32_58 : BitVec 32 := 1#32
  let v62 : BitVec 32 := Scalar.select v61 c1_i32_58 c8_i32_56
  let v63 : BitVec 32 := Scalar.remsi arg10 v62
  let c0_i32_60 : BitVec 32 := 0#32
  let v65 : BitVec 1 := Scalar.cmpi .slt v63 c0_i32_60
  let c0_i32_61 : BitVec 32 := 0#32
  let v66 : BitVec 1 := Scalar.cmpi .slt v62 c0_i32_61
  let v67 : BitVec 1 := Scalar.xori v65 v66
  let c0_i32_59 : BitVec 32 := 0#32
  let v64 : BitVec 1 := Scalar.cmpi .ne v63 c0_i32_59
  let v68 : BitVec 1 := Scalar.andi v67 v64
  let v69 : BitVec 32 := Scalar.addi v63 v62
  let v70 : BitVec 32 := Scalar.select v68 v69 v63
  let c16_i32_62 : BitVec 32 := 16#32
  let v71 : BitVec 32 := Scalar.muli v70 c16_i32_62
  let v73 : Index := Scalar.indexCast v71
  ![v72.toNat, v73.toNat]
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_46 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S1000000x64 : Shape := ⟨2, ![1000000, 64]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩

abbrev nBuf : Space → Nat
  | .hbm => 25
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1000000x64, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x64, .f32⟩
  | .hbm, ⟨21, _⟩ => ⟨S16384x64, .i1⟩
  | .hbm, ⟨22, _⟩ => ⟨S_, .f32⟩
  | .hbm, ⟨23, _⟩ => ⟨S16384x64, .f32⟩
  | .hbm, ⟨24, _⟩ => ⟨S16384x64, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.GatherBatch.lean ====
/-
  Several row gathers in flight on one semaphore.  Every row of every gather is one member of a single counted batch:
  a gather of `o` rows spends the next `o` members at once, and what the batch hands back at its last wait is, row by
  row, the destination filled with the rows the index list names.
-/
module

public import Idealize.ShloMosaic.Lib.Batch
public import Idealize.ShloMosaic.Lib.SparseCore.Stream

@[expose] public section

noncomputable section

namespace Cert.Proof.GatherBatch

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- The members `K`, `K + 1`, …, `K + o - 1` of a family of `n`, in order. -/
def member {n o K : ℕ} (hK : K + o ≤ n) : Fin o ↪ Fin n :=
  ⟨fun j => ⟨K + j.val, by omega⟩, fun i j h => Fin.ext (by have := congrArg Fin.val h; simp only at this; omega)⟩

/-- What is pending from member `K` on is the next `o` members and what is pending after them. -/
theorem pending_block {n o K : ℕ} (hK : K + o ≤ n) (Φ : Fin n → sProp 𝕄) :
    bigSep (Transfers.pending K) Φ
      = iprop(bigSep Finset.univ (fun j : Fin o => Φ (member hK j)) ∗ bigSep (Transfers.pending (K + o)) Φ) := by
  have hd : Disjoint (Finset.univ.map (member (n := n) hK)) (Transfers.pending (K + o)) := by
    refine Finset.disjoint_left.mpr fun t ht hp => ?_
    obtain ⟨j, -, rfl⟩ := Finset.mem_map.mp ht
    have h : K + o ≤ K + j.val := (Finset.mem_filter.mp hp).2
    omega
  have hu : Transfers.pending (n := n) K = Finset.univ.map (member (n := n) hK) ∪ Transfers.pending (K + o) := by
    ext t
    rw [Finset.mem_union, Finset.mem_map, Transfers.pending, Transfers.pending, Finset.mem_filter, Finset.mem_filter]
    constructor
    · rintro ⟨-, h⟩
      by_cases h' : K + o ≤ t.val
      · exact Or.inr ⟨Finset.mem_univ _, h'⟩
      · exact Or.inl ⟨⟨t.val - K, by omega⟩, Finset.mem_univ _, Fin.ext (show K + (t.val - K) = t.val by omega)⟩
    · rintro (⟨j, -, rfl⟩ | ⟨-, h⟩)
      · exact ⟨Finset.mem_univ _, Nat.le_add_right _ _⟩
      · exact ⟨Finset.mem_univ _, by omega⟩
  rw [hu, BI.bigSep_union hd, BI.bigSep_map]; rfl

/-- The values a gather puts in one row of its destination: those of row `x` of the source. -/
def rowVals (hg : s₀.Gathers a s) (g : s₀.Idx → Elt F e) (x : Fin (s₀.size hg.axis)) : (s.rowShape hg.axis').Idx → Elt F e :=
  fun i => g (hg.rowIdx x i)

/-- Row `j` of a gather, arrived: that row of the destination filled from row `r j` of the source, the piece of the
    source's share it used, and the share of its entry of the index list. -/
def rowGot (src : Memref sig c.2.kind sp s₀ e) (dst : Memref sig c.2.kind .vmem s e) (hg : s₀.Gathers a s)
    (offs : Memref sig c.2.kind .vmem si .i32) (hn : si.numel = s.size hg.axis') (ho : 0 < s.size hg.axis') (q qo : PosShare TreeShare)
    (fs : Buf (Elt F) (src.view.loc c)) (fd : Buf (Elt F) (dst.view.loc c)) (fo : Buf (Elt F) (offs.view.loc c))
    (r : Fin (s.size hg.axis') → Fin (s₀.size hg.axis)) (j : Fin (s.size hg.axis')) : sProp 𝕄 :=
  iprop(((dst.view.loc c ↦[(dst.view.slice (s.rowRect hg.axis' j)).set]{fullShare}
        ((dst.view.slice (s.rowRect hg.axis' j)).write (Elt F) fd (rowVals hg (src.view.read (Elt F) fs) (r j)) Finset.univ))
      ∗ (offs.view.loc c ↦[{offs.view.emb (si.rowMajor.symm (j.cast hn.symm))}]{qo} fo))
    ∗ (src.view.loc c ↦[src.view.set]{pieceOf q _ ho j} fs))

instance rowGot_storable (src : Memref sig c.2.kind sp s₀ e) (dst : Memref sig c.2.kind .vmem s e) (hg : s₀.Gathers a s)
    (offs : Memref sig c.2.kind .vmem si .i32) (hn : si.numel = s.size hg.axis') (ho : 0 < s.size hg.axis') (q qo : PosShare TreeShare)
    (fs : Buf (Elt F) (src.view.loc c)) (fd : Buf (Elt F) (dst.view.loc c)) (fo : Buf (Elt F) (offs.view.loc c))
    (r : Fin (s.size hg.axis') → Fin (s₀.size hg.axis)) (j : Fin (s.size hg.axis')) :
    Storable (upEmb : UEmb _ 𝕄) (rowGot c src dst hg offs hn ho q qo fs fd fo r j) := by
  unfold rowGot; infer_instance

omit [Preorder Lvl] in
/-- All the rows of a gather arrived are the whole destination filled with the gather's values, and the shares of the
    source and of the list whole again. -/
theorem rowsGot_join (src : Memref sig c.2.kind sp s₀ e) (dst : Memref sig c.2.kind .vmem s e) (hg : s₀.Gathers a s)
    (offs : Memref sig c.2.kind .vmem si .i32) (hn : si.numel = s.size hg.axis') (ho : 0 < s.size hg.axis') (q qo : PosShare TreeShare)
    (fs : Buf (Elt F) (src.view.loc c)) (fd : Buf (Elt F) (dst.view.loc c)) (fo : Buf (Elt F) (offs.view.loc c))
    (r : Fin (s.size hg.axis') → Fin (s₀.size hg.axis)) :
    bigSep Finset.univ (rowGot (F := F) (Ix := Ix) (Name := Name) (U := U) (Lvl := Lvl) c src dst hg offs hn ho q qo fs fd fo r)
      ⊢ iprop((dst.view.loc c ↦[dst.view.set]{fullShare} (dst.view.write (Elt F) fd (gatherPayload hg (src.view.read (Elt F) fs) r) Finset.univ))
          ∗ (src.view.loc c ↦[src.view.set]{q} fs) ∗ (offs.view.loc c ↦[offs.view.set]{qo} fo)) := by
  have hen : Function.Bijective fun j : Fin (s.size hg.axis') => si.rowMajor.symm (j.cast hn.symm) :=
    si.rowMajor.symm.bijective.comp (finCongr hn.symm).bijective
  have hW : ∀ (j : Fin (s.size hg.axis')) (i : (s.rowShape hg.axis').Idx), rowVals hg (src.view.read (Elt F) fs) (r j) i
      = gatherPayload hg (src.view.read (Elt F) fs) r ((s.rowRect hg.axis' j).emb i) := fun j i => by
    unfold gatherPayload rowVals; rw [Shape.Gathers.idx_rowRect_emb]
  unfold rowGot
  iintro H
  ihave H := Transfers.bigSep_sep_out _ _ _ $$ H
  icases H with ⟨H, Hsrc⟩
  ihave H := Transfers.bigSep_sep_out _ _ _ $$ H
  icases H with ⟨Hrows, Hlist⟩
  isplitl [Hrows]
  · iapply (pointsTo_rows_write c dst.view hg.axis' fd _ _ hW) $$ Hrows
  isplitl [Hsrc]
  · iapply (Entails.of_eq (pointsTo_piecesOf src.view.set fs ho q).symm) $$ Hsrc
  · iapply (Entails.of_eq (pointsTo_entries c offs.view _ hen qo fo).symm) $$ Hlist

/-- Issuing a gather of `o` rows as the members `K …, K + o - 1` of a batch on its semaphore: the tile gives a share of
    the source and of the index list and the destination outright, and goes on with `o` more members issued.  Each
    member's delivery must follow from its row having arrived. -/
theorem wp_gatherIssue [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {n : ℕ} {D : Fin n → sProp 𝕄} {K u : ℕ} (ι : Ix) (N : ℕ)
    (hN : ∀ j, (dst.slice (s.rowRect hg.axis' j) (s.stride_rowRect hg.axis' j)).view.dmaCredit = N)
    (ho : 0 < s.size hg.axis') (hK : K + s.size hg.axis' ≤ n) (hu : u ≤ K * N)
    (hin : ∀ x, (offs.view.read (Elt F) fo x).toNat < s₀.size hg.axis)
    (hD : ∀ j, rowGot c src dst hg offs hn ho q qo fs fd fo (rows (offs.view.read (Elt F) fo) hn hin) j ⊢ D (member hK j)) :
    iprop((src.view.loc c ↦[src.view.set]{q} fs) ∗ (dst.view.loc c ↦[dst.view.set]{fullShare} fd)
        ∗ (offs.view.loc c ↦[offs.view.set]{qo} fo) ∗ Transfers.Batch EC c (.dma sem) ι N D K u)
      ⊢ iprop((Transfers.Batch EC c (.dma sem) ι N D (K + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hen : Function.Bijective S.entry := si.rowMajor.symm.bijective.comp (finCongr hn.symm).bijective
  have hsum : ∑ j, (rd j).dst.view.dmaCredit = s.size hg.axis' * N := by
    rw [Finset.sum_congr rfl fun j _ => hN j, Finset.sum_const, Finset.card_univ, Fintype.card_fin, smul_eq_mul]
  unfold Transfers.Batch
  iintro ⟨Hs, Hd, Hl, ⟨%γ, %γ₀, %κ, #Hinv, HI, H0, Hcred⟩⟩ Hk
  ihave HI' := (Entails.of_eq (pending_block hK fun t => count EC (γ t) 0)) $$ HI
  icases HI' with ⟨Hγ, HI⟩
  ihave Hd' := (Entails.of_eq (pointsTo_rows c dst.view hg.axis' fullShare fd)) $$ Hd
  ihave Hl' := (Entails.of_eq (pointsTo_entries c offs.view S.entry hen qo fo)) $$ Hl
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd hsum) $$ [Hd' Hl' Hs' Hγ]
  · have hrow : ∀ j, iprop(inv κ (Transfers.batchBody EC (c, SemLoc.dma sem) N D γ γ₀)
          ∗ ((((dst.view.loc c ↦[(dst.view.slice (s.rowRect hg.axis' j)).set]{fullShare} fd) ∗ S.heldEntry qo fo j)
          ∗ (src.view.loc c ↦[src.view.set]{pieceOf q _ ho j} fs)) ∗ count EC (γ (member hK j)) 0))
        ⊢ iprop(S.heldEntry qo fo j ∗ (S.heldEntry qo fo j -∗ rowRes c (rd j))) := fun j => by
      iintro ⟨#Hinv, ⟨⟨Hr, He⟩, Hsq⟩, Hγj⟩
      isplitl [He]; · iexact He
      iintro He
      unfold rowRes
      iexists pieceOf q _ ho j, fs, iprop((dst.view.loc c ↦[(dst.view.slice (s.rowRect hg.axis' j)).set]{fullShare}
        ((dst.view.slice (s.rowRect hg.axis' j)).write (Elt F) fd (rowVals hg (src.view.read (Elt F) fs) (r j)) Finset.univ)) ∗ S.heldEntry qo fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · have hpay : ∀ M, M = N → iprop(inv κ (Transfers.batchBody EC (c, SemLoc.dma sem) N D γ γ₀) ∗ count EC (γ (member hK j)) 0)
            ⊢ creditUpdate (c, SemLoc.dma sem) M 0 (rowGot c src dst hg offs hn ho q qo fs fd fo (rows (offs.view.read (Elt F) fo) hn hin) j) := by
          rintro _ rfl
          exact Transfers.batch_creditUpdate EC (member hK j) (hD j)
        iapply (hpay _ (hN j))
        isplitr; · iexact Hinv
        iexact Hγj
    unfold Stream.res
    ihave H1 := Transfers.bigSep_sep_in _ _ _ $$ [Hd' Hl']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun j _ => hrow j)
    isplitr; · iexact Hinv
    iexact H3
  · iintro Hcred'
    iapply Hk
    iexists γ, γ₀, κ
    isplitr; · iexact Hinv
    isplitl [HI]; · iexact HI
    isplitl [H0]; · iexact H0
    rw [show (K + s.size hg.axis') * N - u = (K * N - u) + s.size hg.axis' * N by rw [Nat.add_mul]; omega, ← tallyAt_add]
    icombine Hcred Hcred' as H
    iexact H

end Cert.Proof.GatherBatch
-- ==== Proof.Values.lean ====
/-
  What one tile of the row gather computes, as plain functions of the index array and the padded table: the stretch of
  indices the tile fetches, the four lists of 128 it lays them out in, the rows each list brings, and the block of the
  result they make.
-/
module

public import proofs.«01_k».proof.Defs
public import proofs.«01_k».proof.Proof.GatherBatch
public import Idealize.ShloMosaic.Lib.SparseCore.Stream
public import Idealize.ShloMosaic.Lib.Pipeline.Kit
public import Idealize.ShloMosaic.Lib.Pipeline.Value
public import Idealize.ShloMosaic.Lib.ValueIdxCore
public import proofs.«01_k».proof.Proof.Gen.KernelIdeal
public import proofs.«01_k».proof.Proof.Gen.KernelIdeal.Skeleton

@[expose] public section

noncomputable section

namespace Cert.Proof.Values

open Cert.KernelIdeal Cert.KernelIdeal.Gen
open Idealize.ShloMosaic Idealize.ShloMosaic.SparseCore Idealize.ShloMosaic.ValueIdx

variable {F : FTy → Type}

/-! ## The memrefs of the body -/

/-- The padded table, the index array and the result, whole, as a tile names them. -/
abbrev tbM : Memref sig .scVector .hbm S1000000x128 .f32 := Memref.whole main_v1_scv
abbrev ixM : Memref sig .scVector .hbm S16384 .i32 := Memref.whole main_arg0_scv
abbrev ouM : Memref sig .scVector .hbm S16384x128 .f32 := Memref.whole main_v2_scv
/-- The tile's fetched indices, its lists, and its rows. -/
abbrev fetM : Memref sig .scVector .vmem S512 .i32 := Memref.whole cc0_scratch0
abbrev lisM : Memref sig .scVector .vmem S4x128 .i32 := Memref.whole cc0_scratch1
abbrev rowM : Memref sig .scVector .vmem S512x128 .f32 := Memref.whole cc0_scratch2

theorem lis_inb (j : Fin 4) : ∀ a, (![j.val, 0] : Fin 2 → Nat) a + S1x128.size a ≤ S4x128.size a := by
  revert j; decide
theorem row_inb (j : Fin 4) : ∀ a, (![128 * j.val, 0] : Fin 2 → Nat) a + S128x128.size a ≤ S512x128.size a := by
  revert j; decide

/-- The table as the gathers slice it: all of it. -/
abbrev tbS : Memref sig .scVector .hbm S1000000x128 .f32 :=
  tbM.slice (Rect.unit (s := S1000000x128) ![0, 0] S1000000x128.size inb_S1000000x128_S1000000x128_0_0) (fun _ => rfl)
/-- The tile's stretch of the index array, and its rows of the result. -/
abbrev ixS (L : grid0.Coords) : Memref sig .scVector .hbm S512 .i32 :=
  ixM.slice (Rect.unit (s := S16384) (k0_off1 L) S512.size (k0_off1_inb L)) (fun _ => rfl)
abbrev ouS (L : grid0.Coords) : Memref sig .scVector .hbm S512x128 .f32 :=
  ouM.slice (Rect.unit (s := S16384x128) (k0_off4 L) S512x128.size (k0_off4_inb L)) (fun _ => rfl)
/-- List `j`, and the 128 rows it brings. -/
abbrev lisS (j : Fin 4) : Memref sig .scVector .vmem S128 .i32 :=
  (lisM.slice (Rect.unit (s := S4x128) ![j.val, 0] S1x128.size (lis_inb j)) (fun _ => rfl)).squeeze S128 squeezes_S1x128_S128
abbrev rowS (j : Fin 4) : Memref sig .scVector .vmem S128x128 .f32 :=
  rowM.slice (Rect.unit (s := S512x128) ![128 * j.val, 0] S128x128.size (row_inb j)) (fun _ => rfl)

/-! ## The values -/

/-- The number of the tile at mesh coordinates `L`: twice its subcore plus its core. -/
def wid (L : grid0.Coords) : Fin 32 :=
  ⟨2 * (L 1).val + (L 0).val, by
    have h0 : (L 0).val < 2 := (L 0).isLt
    have h1 : (L 1).val < 16 := (L 1).isLt
    omega⟩

/-- Position `n` of the stretch of tile `w`. -/
def pos (w : Fin 32) (n : ℕ) (h : n < 512) : Fin 16384 := ⟨512 * w.val + n, by omega⟩

/-- The table row that entry `n` of the index array names. -/
def pick (ix : S16384.Idx → BitVec 32) (n : Fin 16384) : Fin 1000000 :=
  ⟨(ix (ix1 n)).toNat % 1000000, Nat.mod_lt _ (by decide)⟩

/-- The whole result: row `n` is the table row the index array names at `n`. -/
def OUT {α : Type} (ix : S16384.Idx → BitVec 32) (tb : S1000000x128.Idx → α) : S16384x128.Idx → α :=
  fun j => tb (ix2 (pick ix (j 0)) (j 1))

/-- The stretch of tile `w`; the same laid out in four lists; and the rows it names. -/
def fetch (ix : S16384.Idx → BitVec 32) (w : Fin 32) : S512.Idx → BitVec 32 := fun x => ix (ix1 (pos w (x 0).val (x 0).isLt))

theorem grid_lt (p : S4x128.Idx) : 128 * (p 0).val + (p 1).val < 512 := by
  have h0 : (p 0).val < 4 := (p 0).isLt
  have h1 : (p 1).val < 128 := (p 1).isLt
  omega

def lists (ix : S16384.Idx → BitVec 32) (w : Fin 32) : S4x128.Idx → BitVec 32 :=
  fun p => ix (ix1 (pos w (128 * (p 0).val + (p 1).val) (grid_lt p)))

def block {α : Type} (ix : S16384.Idx → BitVec 32) (tb : S1000000x128.Idx → α) (w : Fin 32) : S512x128.Idx → α :=
  fun p => tb (ix2 (pick ix (pos w (p 0).val (p 0).isLt)) (p 1))

/-- The rows of the result that tile `w` writes, and the rows of a tile that list `j` brings. -/
def outPart (w : Fin 32) : Finset S16384x128.Idx := Finset.univ.filter fun p => (p 0).val / 512 = w.val
def rowPart (j : Fin 4) : Finset S512x128.Idx := Finset.univ.filter fun p => (p 0).val / 128 = j.val

/-! ## Where the slices lie -/

/-- Tile `L`'s stretch starts at 512 times its number. -/
theorem off1_wid (L : grid0.Coords) : k0_off1 L = ![512 * (wid L).val] := by
  rw [k0_off1_eq]; show ![_] = ![512 * (2 * (L 1).val + (L 0).val)]
  congr 1; omega
theorem off4_wid (L : grid0.Coords) : k0_off4 L = ![512 * (wid L).val, 0] := by
  rw [k0_off4_eq]; show ![_, _] = ![512 * (2 * (L 1).val + (L 0).val), 0]
  congr 1; omega

/-- The result's rows of tile `L`, as a set. -/
theorem ouS_set (L : grid0.Coords) : (ouS L).view.set = outPart (wid L) := by
  ext p
  rw [show (ouS L).view.set = (Rect.unit (s := S16384x128) (k0_off4 L) S512x128.size (k0_off4_inb L)).set from View.set_slice_whole _ _,
    LoadRect.mem_set, outPart, Finset.mem_filter]
  have h1 : (p 1).val < 128 := (p 1).isLt
  constructor
  · intro h
    obtain ⟨j, hj, he⟩ := h 0
    refine ⟨Finset.mem_univ _, ?_⟩
    have hj' : j < 512 := hj
    have he' : (p 0).val = k0_off4 L 0 + 1 * j := he
    rw [off4_wid] at he'
    change (p 0).val = 512 * (wid L).val + 1 * j at he'
    omega
  · rintro ⟨-, h⟩ a
    match a with
    | ⟨0, _⟩ =>
      refine ⟨(p 0).val % 512, Nat.mod_lt _ (by decide), ?_⟩
      change (p 0).val = k0_off4 L 0 + 1 * _
      rw [off4_wid]; change (p 0).val = 512 * (wid L).val + 1 * _
      omega
    | ⟨1, _⟩ =>
      refine ⟨(p 1).val, h1, ?_⟩
      change (p 1).val = k0_off4 L 1 + 1 * _
      rw [off4_wid]; change (p 1).val = 0 + 1 * _
      omega

/-- The rows list `j` brings, as a set. -/
theorem rowS_set (j : Fin 4) : (rowS j).view.set = rowPart j := by
  ext p
  rw [show (rowS j).view.set = (Rect.unit (s := S512x128) ![128 * j.val, 0] S128x128.size (row_inb j)).set from View.set_slice_whole _ _,
    LoadRect.mem_set, rowPart, Finset.mem_filter]
  have h1 : (p 1).val < 128 := (p 1).isLt
  constructor
  · intro h
    obtain ⟨k, hk, he⟩ := h 0
    refine ⟨Finset.mem_univ _, ?_⟩
    have hk' : k < 128 := hk
    have he' : (p 0).val = 128 * j.val + 1 * k := he
    omega
  · rintro ⟨-, h⟩ a
    match a with
    | ⟨0, _⟩ =>
      refine ⟨(p 0).val % 128, Nat.mod_lt _ (by decide), ?_⟩
      change (p 0).val = 128 * j.val + 1 * _
      omega
    | ⟨1, _⟩ =>
      refine ⟨(p 1).val, h1, ?_⟩
      change (p 1).val = 0 + 1 * _
      omega

/-- Every row of the result is some tile's; two tiles have none in common. -/
theorem out_cover : (Finset.univ : Finset S16384x128.Idx) = Finset.univ.biUnion outPart := by
  ext p
  simp only [Finset.mem_univ, Finset.mem_biUnion, true_and, true_iff, outPart, Finset.mem_filter]
  have h0 : (p 0).val < 16384 := (p 0).isLt
  exact ⟨⟨(p 0).val / 512, by omega⟩, rfl⟩
theorem out_disjoint : ∀ w ∈ (Finset.univ : Finset (Fin 32)), ∀ w' ∈ (Finset.univ : Finset (Fin 32)), w ≠ w' → Disjoint (outPart w) (outPart w') :=
  fun w _ w' _ hne => Finset.disjoint_left.mpr fun p hp hp' =>
    hne (Fin.ext ((Finset.mem_filter.mp hp).2.symm.trans (Finset.mem_filter.mp hp').2))

/-- Every row of a tile is in some list's rows; two lists have none in common. -/
theorem row_cover : (Finset.univ : Finset S512x128.Idx) = Finset.univ.biUnion rowPart := by
  ext p
  simp only [Finset.mem_univ, Finset.mem_biUnion, true_and, true_iff, rowPart, Finset.mem_filter]
  have h0 : (p 0).val < 512 := (p 0).isLt
  exact ⟨⟨(p 0).val / 128, by omega⟩, rfl⟩
theorem row_disjoint : ∀ j ∈ (Finset.univ : Finset (Fin 4)), ∀ j' ∈ (Finset.univ : Finset (Fin 4)), j ≠ j' → Disjoint (rowPart j) (rowPart j') :=
  fun j _ j' _ hne => Finset.disjoint_left.mpr fun p hp hp' =>
    hne (Fin.ext ((Finset.mem_filter.mp hp).2.symm.trans (Finset.mem_filter.mp hp').2))

/-! ## What the transfers and the loop move -/

/-- The fetch brings the tile's stretch. -/
theorem ixS_read (L : grid0.Coords) (ix : S16384.Idx → BitVec 32) :
    (ixS L).view.read (Elt F) (ix : BufTy.Contents (Elt F) ⟨S16384, .i32⟩) = fetch ix (wid L) := by
  funext x
  rw [View.read_apply, cast_eq]
  unfold fetch
  congr 1
  funext a
  match a with
  | ⟨0, _⟩ =>
    refine Fin.ext ?_
    change k0_off1 L 0 + 1 * (x 0).val = 512 * (wid L).val + (x 0).val
    rw [off1_wid, Nat.one_mul]; rfl

/-- List `j` read at `x` is the tile's index `128 j + x`. -/
theorem lisS_read (j : Fin 4) (f : S4x128.Idx → BitVec 32) (x : S128.Idx) :
    (lisS j).view.read (Elt F) (f : BufTy.Contents (Elt F) ⟨S4x128, .i32⟩) x = f (ix2 j (x 0)) := by
  rw [View.read_apply, cast_eq]
  congr 1
  have hc : Shape.reshapeEquiv squeezes_S1x128_S128.numel_eq x = Fin.cons ⟨0, Nat.one_pos⟩ x :=
    Shape.reshapeEquiv_cons_one (n := 1) (d := ![128]) _ x
  change (Rect.unit (s := S4x128) ![j.val, 0] S1x128.size (lis_inb j)).emb (Shape.reshapeEquiv squeezes_S1x128_S128.numel_eq x) = _
  rw [hc]
  funext a
  match a with
  | ⟨0, _⟩ => exact Fin.ext (Nat.add_zero _)
  | ⟨1, _⟩ => exact Fin.ext (by change 0 + 1 * (x 0).val = (x 0).val; omega)

/-- The one coordinate of position `k` of a list is `k`. -/
theorem list_coord (k : Fin S128.numel) : (S128.rowMajor.symm k 0).val = k.val := by
  rw [← Shape.rowMajor_val_one (d := ![128]) (S128.rowMajor.symm k)]
  exact congrArg Fin.val (Equiv.apply_symm_apply S128.rowMajor k)

/-- The rows list `j` brings are rows `128 j …` of the tile's block of the result. -/
theorem rowS_write (j : Fin 4) (w : Fin 32) (ix : S16384.Idx → BitVec 32) (hix : ∀ x, (ix x).toNat < 1000000)
    (tb : BufTy.Contents (Elt F) ⟨S1000000x128, .f32⟩) (fd : BufTy.Contents (Elt F) ⟨S512x128, .f32⟩) (hn) (hin)
    (p : S512x128.Idx) (hp : p ∈ (rowS j).view.set) :
    (rowS j).view.write (Elt F) fd (gatherPayload (F := F) gathers_S1000000x128_S128x128 (tbS.view.read (Elt F) tb)
        (rows ((lisS j).view.read (Elt F) (lists ix w : BufTy.Contents (Elt F) ⟨S4x128, .i32⟩)) hn hin)) Finset.univ p
      = block ix tb w p := by
  obtain ⟨x, -, rfl⟩ := Finset.mem_map.mp hp
  rw [View.write_emb_of_mem _ _ (Finset.mem_univ _), cast_eq]
  unfold gatherPayload
  rw [View.read_apply, cast_eq]
  unfold block
  congr 1
  funext a
  match a with
  | ⟨0, _⟩ =>
    refine Fin.ext ?_
    change 0 + 1 * ((lisS j).view.read (Elt F) (lists ix w : BufTy.Contents (Elt F) ⟨S4x128, .i32⟩)
      (S128.rowMajor.symm ((x 0).cast hn.symm))).toNat = (ix _).toNat % 1000000
    rw [lisS_read, Nat.mod_eq_of_lt (hix _), Nat.one_mul, Nat.zero_add]
    unfold lists
    congr 4
    change 128 * j.val + (S128.rowMajor.symm ((x 0).cast hn.symm) 0).val = 128 * j.val + 1 * (x 0).val
    rw [list_coord, Nat.one_mul]; rfl
  | ⟨1, _⟩ =>
    refine Fin.ext ?_
    change 0 + 1 * (x 1).val = 0 + 1 * (x 1).val
    rfl

/-- Trip `t` of the loop writes row `t / 8`, columns `16 (t % 8) …`. -/
theorem off3_eq : ∀ t : Fin k0_t1_loop.trips, k0_off3 t = ![t.val / 8, 16 * (t.val % 8)] := by decide +kernel

/-- What a trip stores is the sixteen entries it loaded, in order. -/
theorem pay_apply (v : Vec F S16 .i32) (y : S1x16.Idx) : k0_pay1 (F := F) v y = v (ix1 (y 1)) := by
  unfold k0_pay1
  rw [shapeCast_self]
  refine shapeCast_apply _ _ _ _ ?_
  have h0 : (y 0).val < 1 := (y 0).isLt
  rw [Shape.rowMajor_val_one (d := ![16]), Shape.rowMajor_val_two (d := ![1, 16])]
  change (y 1).val = (y 0).val * 16 + (y 1).val
  omega

/-- A trip brings the lists sixteen entries further. -/
theorem trip_writes (t : Fin k0_t1_loop.trips) (w : Fin 32) (ix : S16384.Idx → BitVec 32) (f : BufTy.Contents (Elt F) ⟨S4x128, .i32⟩)
    (hf : ∀ p : S4x128.Idx, 128 * (p 0).val + (p 1).val < 16 * t.val → f p = lists ix w p) (h2) (h3) :
    ∀ p : S4x128.Idx, 128 * (p 0).val + (p 1).val < 16 * (t.val + 1) →
      lisM.view.writes (Elt F) f [⟨Rect.unit (s := S4x128) (k0_off3 t) S1x16.size h3,
        k0_pay1 (F := F) (View.readAt (Elt F) fetM.view (Rect.unit (s := S512) (k0_off2 t) S16.size h2).toLoadRect
          (fetch ix w : BufTy.Contents (Elt F) ⟨S512, .i32⟩))⟩] p = lists ix w p := by
  intro p hp
  rw [View.writes_singleton]
  have ht : t.val < 32 := lt_of_lt_of_le t.isLt k0_t1_abs.2.1
  have h1 : (p 1).val < 128 := (p 1).isLt
  by_cases hin : 16 * t.val ≤ 128 * (p 0).val + (p 1).val
  · have hy : ∃ y : S1x16.Idx, (lisM.view.slice (Rect.unit (s := S4x128) (k0_off3 t) S1x16.size h3)).emb y = p ∧ (p 1).val = 16 * (t.val % 8) + (y 1).val := by
      refine ⟨ix2 (⟨0, by decide⟩ : Fin 1) (⟨(p 1).val - 16 * (t.val % 8), by omega⟩ : Fin 16), ?_, ?_⟩
      · funext a
        match a with
        | ⟨0, _⟩ =>
          refine Fin.ext ?_
          change k0_off3 t 0 + 1 * 0 = (p 0).val
          rw [off3_eq]; change t.val / 8 + 1 * 0 = (p 0).val; omega
        | ⟨1, _⟩ =>
          refine Fin.ext ?_
          change k0_off3 t 1 + 1 * ((p 1).val - 16 * (t.val % 8)) = (p 1).val
          rw [off3_eq]; change 16 * (t.val % 8) + 1 * ((p 1).val - 16 * (t.val % 8)) = (p 1).val; omega
      · change (p 1).val = 16 * (t.val % 8) + ((p 1).val - 16 * (t.val % 8)); omega
    obtain ⟨y, hy, hy1⟩ := hy
    rw [← hy, View.write_emb_of_mem _ _ (Finset.mem_univ _), cast_eq, hy, pay_apply, View.readAt_apply, View.read_apply, cast_eq]
    unfold fetch lists
    congr 2
    refine Fin.ext ?_
    change 512 * w.val + (k0_off2 t 0 + 1 * (y 1).val) = 512 * w.val + (128 * (p 0).val + (p 1).val)
    rw [k0_off2_eq]
    change 512 * w.val + (16 * t.val + 1 * (y 1).val) = 512 * w.val + (128 * (p 0).val + (p 1).val)
    omega
  · rw [View.write_of_not_mem, hf p (by omega)]
    intro hmem
    obtain ⟨y, -, hy⟩ := Finset.mem_map.mp hmem
    have e0 : (p 0).val = k0_off3 t 0 + 1 * (y 0).val := congrArg (fun q : S4x128.Idx => (q 0).val) hy.symm
    have e1 : (p 1).val = k0_off3 t 1 + 1 * (y 1).val := congrArg (fun q : S4x128.Idx => (q 1).val) hy.symm
    have q0 : k0_off3 t 0 = t.val / 8 := congrFun (off3_eq t) 0
    have q1 : k0_off3 t 1 = 16 * (t.val % 8) := congrFun (off3_eq t) 1
    omega

/-- The block written to the tile's rows of the result is the result there. -/
theorem ouS_write (L : grid0.Coords) (ix : S16384.Idx → BitVec 32) (tb : BufTy.Contents (Elt F) ⟨S1000000x128, .f32⟩)
    (fd : BufTy.Contents (Elt F) ⟨S16384x128, .f32⟩) (p : S16384x128.Idx) (hp : p ∈ (ouS L).view.set) :
    (ouS L).view.write (Elt F) fd (block ix tb (wid L)) Finset.univ p = OUT ix tb p := by
  obtain ⟨x, -, rfl⟩ := Finset.mem_map.mp hp
  rw [View.write_emb_of_mem _ _ (Finset.mem_univ _), cast_eq]
  have e0 : ((ouS L).view.emb x 0) = pos (wid L) (x 0).val (x 0).isLt := Fin.ext (by
    change k0_off4 L 0 + 1 * (x 0).val = 512 * (wid L).val + (x 0).val
    rw [off4_wid, Nat.one_mul]; rfl)
  have e1 : ((ouS L).view.emb x 1) = x 1 := Fin.ext (by
    change k0_off4 L 1 + 1 * (x 1).val = (x 1).val
    rw [off4_wid, Nat.one_mul]; exact Nat.zero_add _)
  unfold block OUT
  rw [e0, e1]

end Cert.Proof.Values
-- ==== Proof.Setup.lean ====
/-
  The row gather's launch: what each tile is handed and hands back.  Tile `w` of the 32 is handed a share of the whole
  index array, a share of the whole padded table, and its 512 rows of the result outright; it hands back the same, its
  rows of the result now the table rows its indices name.
-/
module

public import proofs.«01_k».proof.Defs
public import proofs.«01_k».proof.Proof.Values
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Launch

open Cert.KernelIdeal Cert.KernelIdeal.Gen Cert.Proof.Values Cert.Proof.GatherBatch

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program, and the resources it runs with -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-- The index array, the padded table and the result of the call, on device `d`. -/
abbrev iLoc (d : Dev nD) : Loc nD τ sig := (SparseCore.T d).loc main_arg0
abbrev tLoc (d : Dev nD) : Loc nD τ sig := (SparseCore.T d).loc main_v1
abbrev oLoc (d : Dev nD) : Loc nD τ sig := (SparseCore.T d).loc main_v2

/-- A whole index array, padded table and result, as buffer contents. -/
abbrev IxArr : Type := S16384.Idx → BitVec 32
abbrev TbArr (F : FTy → Type) : Type := BufTy.Contents (Elt F) ⟨S1000000x128, .f32⟩
abbrev OuArr (F : FTy → Type) : Type := BufTy.Contents (Elt F) ⟨S16384x128, .f32⟩

/-! ## What a tile holds -/

/-- The number of the tile on subcore `i` of core `c`. -/
def num (c i : ℕ) : Fin 32 := ⟨(2 * i + c) % 32, Nat.mod_lt _ (by decide)⟩

theorem num_wid (L : grid0.Coords) : num (L 0).val (L 1).val = wid L := by
  have h0 : (L 0).val < 2 := (L 0).isLt
  have h1 : (L 1).val < 16 := (L 1).isLt
  exact Fin.ext (Nat.mod_eq_of_lt (by omega))

/-- Tile `w`'s share of what all tiles read. -/
abbrev sh (w : Fin 32) : PosShare TreeShare := pieceOf fullShare 32 (by decide) w

/-- What tile `w` holds of the call's operands, with the result at `f`. -/
def held (ix : Dev nD → IxArr) (tb : Dev nD → TbArr F) (d : Dev nD) (w : Fin 32) (f : OuArr F) : sProp 𝕄 :=
  iprop((iLoc d ↦{sh w} ix d) ∗ (tLoc d ↦{sh w} tb d) ∗ oLoc d ↦[outPart w]{fullShare} f)

instance held_storable (ix : Dev nD → IxArr) (tb : Dev nD → TbArr F) (d : Dev nD) (w : Fin 32) (f : OuArr F) :
    BI.Storable (upEmb : UEmb _ 𝕄) (held ix tb d w f) := by unfold held; infer_instance

/-- What the call's messages carry: a core is handed what its sixteen tiles are, and hands back what they do. -/
def P (ix : Dev nD → IxArr) (tb : Dev nD → TbArr F) (ou : Dev nD → OuArr F) : (K (F := F)).Pay (nD := nD) (Val := Elt F) (Name := ℕ) (U := UU) where
  st := fun q d c => bigSep Finset.univ fun i : Fin ((K (F := F)).nSub q) => held ix tb d (num c.val i.val) (ou d)
  dn := fun q d c => bigSep Finset.univ fun i : Fin ((K (F := F)).nSub q) => held ix tb d (num c.val i.val) (OUT (ix d) (tb d))
  go := fun _ d c i => held ix tb d (num c.val i.val) (ou d)
  td := fun _ d c i => held ix tb d (num c.val i.val) (OUT (ix d) (tb d))
  x := fun _ _ => iprop(emp)

instance P_storable (ix : Dev nD → IxArr) (tb : Dev nD → TbArr F) (ou : Dev nD → OuArr F) : (P (F := F) ix tb ou).IsStorable where
  st q d c := (inferInstance : BI.Storable (upEmb : UEmb _ 𝕄)
    (bigSep Finset.univ fun i : Fin ((K (F := F)).nSub q) => held ix tb d (num c.val i.val) (ou d)))
  dn q d c := (inferInstance : BI.Storable (upEmb : UEmb _ 𝕄)
    (bigSep Finset.univ fun i : Fin ((K (F := F)).nSub q) => held ix tb d (num c.val i.val) (OUT (ix d) (tb d))))
  go _ d c i := held_storable ix tb d (num c.val i.val) (ou d)
  td _ d c i := held_storable ix tb d (num c.val i.val) (OUT (ix d) (tb d))

/-- A core's tiles are handed what the core is, and it hands back what they do. -/
theorem vecSplit (ix : Dev nD → IxArr) (tb : Dev nD → TbArr F) (ou : Dev nD → OuArr F) : (K (F := F)).VecSplit' (P ix tb ou) 0 := by
  intro d c
  show (P ix tb ou).st 0 d c ⊢ |={Set.univ}=> iprop((P ix tb ou).st 0 d c ∗ ((P ix tb ou).dn 0 d c -∗ (P ix tb ou).dn 0 d c))
  iintro H; imodintro
  isplitl [H]; · iexact H
  iintro H; iexact H

/-! ## A vector subcore's own buffers and counters -/

variable (d : Dev nD) (L : grid0.Coords)

abbrev cV (L : grid0.Coords) : Fin τ.nSC := (L 0).castLE hcore0
abbrev jV (L : grid0.Coords) : Fin τ.nSub := (L 1).castLE hsub0
/-- The subcore at mesh coordinates `L` of device `d`, as a thread. -/
abbrev thr (d : Dev nD) (L : grid0.Coords) : Thread nD τ := V d (cV L) (jV L)

abbrev fetCell : GSem nD τ sig := (thr d L, .dma cc0_scoped0.sem)
abbrev gatCell : GSem nD τ sig := (thr d L, .dma cc0_scratch3.sem)
abbrev outCell : GSem nD τ sig := (thr d L, .dma cc0_scratch4.sem)

/-- The subcore's counters are the three the body waits on and the rest. -/
theorem ownSems0_V :
    (ownSems0 (thr d L) : sProp 𝕄)
      = iprop(semVal (fetCell d L) 0 ∗ semVal (gatCell d L) 0 ∗ semVal (outCell d L) 0
          ∗ bigSep ((((ownCells (thr d L)).erase (fetCell d L)).erase (gatCell d L)).erase (outCell d L)) fun g => semVal g 0) := by
  unfold SparseCore.Cfg.ownSems0
  rw [SparseCore.bigSep_erase' ((mem_ownCells (g := fetCell d L)).mpr ⟨rfl, by
      show (SemLoc.dma cc0_scoped0.sem : SemLoc sig).isScoped .scVector = true; decide⟩),
    SparseCore.bigSep_erase' (Finset.mem_erase.mpr ⟨by simp [fetCell, gatCell]; decide, (mem_ownCells (g := gatCell d L)).mpr ⟨rfl, by
      show (SemLoc.dma cc0_scratch3.sem : SemLoc sig).isScoped .scVector = true; decide⟩⟩),
    SparseCore.bigSep_erase' (Finset.mem_erase.mpr ⟨by simp [gatCell, outCell]; decide, Finset.mem_erase.mpr ⟨by simp [fetCell, outCell]; decide,
      (mem_ownCells (g := outCell d L)).mpr ⟨rfl, by show (SemLoc.dma cc0_scratch4.sem : SemLoc sig).isScoped .scVector = true; decide⟩⟩⟩)]

/-- The subcore's buffers are the three scratch buffers, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  have hne : ∀ {b b' : Ref sig .scVector}, b ≠ b' → (Proc.scVector (cV L) (jV L)).devRef b ≠ (Proc.scVector (cV L) (jV L)).devRef b' :=
    fun h e => h (Proc.devRef_injective _ e)
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨hne (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨hne (show (cc0_scratch2 : Ref sig .scVector) ≠ cc0_scratch1 by decide),
      Finset.mem_erase.mpr ⟨hne (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

end Cert.Proof.Launch
-- ==== Proof.Gathers.lean ====
/-
  The four gathers of a tile as one counted batch of 512 rows: what each is handed, what each row brings, and how the
  512 rows arrived make the tile's block of the result.
-/
module

public import proofs.«01_k».proof.Proof.Setup

@[expose] public section

noncomputable section

namespace Cert.Proof.Launch

open Cert.KernelIdeal Cert.KernelIdeal.Gen Cert.Proof.Values Cert.Proof.GatherBatch

open Idealize.ShloMosaic
open Idealize.ShloMosaic.SparseCore (S V T rows gatherPayload)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type}

local notation "𝕄" => MT nD τ sig (HIx 1) (Elt F) ℕ UU ℕ

variable (d : Dev nD) (L : grid0.Coords) (ix : IxArr) (hix : ∀ x, (ix x).toNat < 1000000) (tb : TbArr F)
  (fr : BufTy.Contents (Elt F) ⟨S512x128, .f32⟩)

/-- Gather `j`'s share of the table, out of the tile's, and of the lists. -/
abbrev qT (w : Fin 32) (j : Fin 4) : PosShare TreeShare := pieceOf (sh w) 4 (by decide) j
abbrev qL (j : Fin 4) : PosShare TreeShare := pieceOf fullShare 4 (by decide) j

include hix in
/-- Every entry of a list names a row of the table. -/
theorem lists_inb (j : Fin 4) : ∀ x, ((lisS j).view.read (Elt F) (lists ix (wid L) : BufTy.Contents (Elt F) ⟨S4x128, .i32⟩) x).toNat
    < S1000000x128.size gathers_S1000000x128_S128x128.axis := by
  intro x; rw [lisS_read]; exact hix _

/-- The rows list `j` names, in order. -/
abbrev named (j : Fin 4) : Fin (S128x128.size gathers_S1000000x128_S128x128.axis') → Fin (S1000000x128.size gathers_S1000000x128_S128x128.axis) :=
  rows (F := F) ((lisS j).view.read (Elt F) (lists ix (wid L) : BufTy.Contents (Elt F) ⟨S4x128, .i32⟩)) rfl (lists_inb L ix hix j)

/-- Row `i` of gather `j`, arrived. -/
def got (j : Fin 4) (i : Fin 128) : sProp 𝕄 :=
  rowGot (thr d L) tbS (rowS j) gathers_S1000000x128_S128x128 (lisS j) rfl (by decide) (qT (wid L) j) (qL j) tb fr (lists ix (wid L))
    (named (F := F) L ix hix j) i

instance got_storable (j : Fin 4) (i : Fin 128) : Storable (upEmb : UEmb _ 𝕄) (got d L ix hix tb fr j i) := by
  unfold got; exact rowGot_storable _ _ _ _ _ _ _ _ _ _ _ _ _ _

/-- Member `t` of the batch: row `t % 128` of gather `t / 128`. -/
def deliv (t : Fin 512) : sProp 𝕄 := got d L ix hix tb fr ⟨t.val / 128, by omega⟩ ⟨t.val % 128, Nat.mod_lt _ (by decide)⟩

instance deliv_storable (t : Fin 512) : Storable (upEmb : UEmb _ 𝕄) (deliv d L ix hix tb fr t) := by
  unfold deliv; infer_instance

/-- What gather `j` is handed. -/
abbrev srcPts (j : Fin 4) : sProp 𝕄 := tbS.view.loc (thr d L) ↦[tbS.view.set]{qT (wid L) j} tb
abbrev dstPts (j : Fin 4) : sProp 𝕄 := (rowS j).view.loc (thr d L) ↦[(rowS j).view.set]{fullShare} fr
abbrev lisPts (j : Fin 4) : sProp 𝕄 := (lisS j).view.loc (thr d L) ↦[(lisS j).view.set]{qL j} (lists ix (wid L) : BufTy.Contents (Elt F) ⟨S4x128, .i32⟩)

/-- What of the table and of the lists no gather is handed. -/
def kept : sProp 𝕄 :=
  iprop((bigSep Finset.univ fun j : Fin 4 => tbS.view.loc (thr d L) ↦[Finset.univ \ tbS.view.set]{qT (wid L) j} tb)
    ∗ bigSep Finset.univ fun j : Fin 4 => (lisS j).view.loc (thr d L) ↦[Finset.univ \ (lisS j).view.set]{qL j}
        (lists ix (wid L) : BufTy.Contents (Elt F) ⟨S4x128, .i32⟩))

theorem four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-- A share of a buffer cut in four, each piece in two at a set of its own. -/
theorem pieces_split {ℓ : Loc nD τ sig} (q : PosShare TreeShare) (f : Buf (Elt F) ℓ) (I : Fin 4 → Finset (Idx ℓ)) :
    (ℓ ↦{q} f : sProp 𝕄) ⊣⊢ iprop((bigSep Finset.univ fun j : Fin 4 => ℓ ↦[I j]{pieceOf q 4 (by decide) j} f)
      ∗ bigSep Finset.univ fun j : Fin 4 => ℓ ↦[Finset.univ \ I j]{pieceOf q 4 (by decide) j} f) := by
  rw [pointsTo_piecesOf Finset.univ f (show 0 < 4 by decide) q, ← bigSep_sep',
    show (bigSep Finset.univ fun j : Fin 4 => (ℓ ↦{pieceOf q 4 (by decide) j} f : sProp 𝕄))
      = bigSep Finset.univ fun j : Fin 4 => iprop((ℓ ↦[I j]{pieceOf q 4 (by decide) j} f) ∗ ℓ ↦[Finset.univ \ I j]{pieceOf q 4 (by decide) j} f) from
    bigSep_congr fun j _ => BI.Entails.antisymm (pointsTo_split_subset (Finset.subset_univ _)).1 (pointsTo_split_subset (Finset.subset_univ _)).2]

/-- The rows buffer is its four parts. -/
theorem rows_parts (f : BufTy.Contents (Elt F) ⟨S512x128, .f32⟩) :
    ((thr d L).loc cc0_scratch2 ↦{fullShare} f : sProp 𝕄)
      = bigSep Finset.univ fun j : Fin 4 => (rowS j).view.loc (thr d L) ↦[(rowS j).view.set]{fullShare} f := by
  rw [show (Finset.univ : Finset (Idx ((thr d L).loc cc0_scratch2))) = Finset.univ.biUnion rowPart from row_cover,
    pointsTo_biUnion Finset.univ (ℓ := (thr d L).loc cc0_scratch2) rowPart row_disjoint]
  exact bigSep_congr fun j _ => by rw [rowS_set]

/-- Before the gathers: the table's share, the lists and the rows are what the four are handed and what is kept. -/
theorem hand_out :
    iprop((tLoc d ↦{sh (wid L)} tb) ∗ ((thr d L).loc cc0_scratch1 ↦{fullShare} (lists ix (wid L) : BufTy.Contents (Elt F) ⟨S4x128, .i32⟩))
        ∗ ((thr d L).loc cc0_scratch2 ↦{fullShare} fr))
      ⊢ (iprop((srcPts d L tb 0 ∗ srcPts d L tb 1 ∗ srcPts d L tb 2 ∗ srcPts d L tb 3)
          ∗ (lisPts d L ix 0 ∗ lisPts d L ix 1 ∗ lisPts d L ix 2 ∗ lisPts d L ix 3)
          ∗ (dstPts d L fr 0 ∗ dstPts d L fr 1 ∗ dstPts d L fr 2 ∗ dstPts d L fr 3) ∗ kept d L ix tb) : sProp 𝕄) := by
  unfold kept
  iintro ⟨Ht, Hl, Hr⟩
  ihave Ht := (pieces_split (sh (wid L)) tb (fun _ => tbS.view.set)).1 $$ Ht
  icases Ht with ⟨Ht, Htk⟩
  ihave Hl := (pieces_split (ℓ := (thr d L).loc cc0_scratch1) fullShare _ (fun j => (lisS j).view.set)).1 $$ Hl
  icases Hl with ⟨Hl, Hlk⟩
  ihave Ht := (Entails.of_eq (four _)) $$ Ht
  ihave Hl := (Entails.of_eq (four _)) $$ Hl
  ihave Hr := (Entails.of_eq ((rows_parts d L fr).trans (four _))) $$ Hr
  isplitl [Ht]; · iexact Ht
  isplitl [Hl]; · iexact Hl
  isplitl [Hr]; · iexact Hr
  isplitl [Htk]; · iexact Htk
  iexact Hlk

/-- The batch's members, gather by gather. -/
theorem deliv_gathers : bigSep Finset.univ (deliv d L ix hix tb fr) = bigSep Finset.univ fun j : Fin 4 => bigSep Finset.univ (got d L ix hix tb fr j) := by
  rw [bigSep_univ_equiv (finProdFinEquiv : Fin 4 × Fin 128 ≃ Fin 512), bigSep_univ_prod]
  refine bigSep_congr fun j _ => bigSep_congr fun i _ => ?_
  have h : (finProdFinEquiv (j, i) : Fin 512).val = i.val + 128 * j.val := rfl
  unfold deliv
  congr 1
  · exact Fin.ext (by show (finProdFinEquiv (j, i) : Fin 512).val / 128 = j.val; rw [h]; omega)
  · exact Fin.ext (by show (finProdFinEquiv (j, i) : Fin 512).val % 128 = i.val; rw [h]; omega)

/-- After the gathers: all 512 rows arrived and what was kept are the table's share and the lists again, and the tile's
    block of the result in the rows. -/
theorem collect :
    iprop(bigSep Finset.univ (deliv d L ix hix tb fr) ∗ kept d L ix tb)
      ⊢ (iprop((tLoc d ↦{sh (wid L)} tb) ∗ ((thr d L).loc cc0_scratch1 ↦{fullShare} (lists ix (wid L) : BufTy.Contents (Elt F) ⟨S4x128, .i32⟩))
        ∗ ((thr d L).loc cc0_scratch2 ↦{fullShare} (block ix tb (wid L) : BufTy.Contents (Elt F) ⟨S512x128, .f32⟩))) : sProp 𝕄) := by
  have hj : ∀ j : Fin 4, bigSep Finset.univ (got d L ix hix tb fr j)
      ⊢ (iprop(((rowS j).view.loc (thr d L) ↦[(rowS j).view.set]{fullShare} (block ix tb (wid L) : BufTy.Contents (Elt F) ⟨S512x128, .f32⟩))
        ∗ srcPts d L tb j ∗ lisPts d L ix j) : sProp 𝕄) := fun j => by
    refine (rowsGot_join (thr d L) tbS (rowS j) gathers_S1000000x128_S128x128 (lisS j) rfl (by decide) (qT (wid L) j) (qL j) tb fr (lists ix (wid L))
      (named (F := F) L ix hix j)).trans ?_
    iintro ⟨Hd, Hs, Hl⟩
    isplitl [Hd]
    · iapply (Entails.of_eq (pointsTo_congr (g := (block ix tb (wid L) : BufTy.Contents (Elt F) ⟨S512x128, .f32⟩))
        fun p hp => rowS_write j (wid L) ix hix tb fr rfl (lists_inb L ix hix j) p hp)); iexact Hd
    isplitl [Hs]; · iexact Hs
    iexact Hl
  have hall : iprop(bigSep Finset.univ fun j : Fin 4 => bigSep Finset.univ (got d L ix hix tb fr j))
      ⊢ (iprop(bigSep Finset.univ fun j : Fin 4 => iprop(((rowS j).view.loc (thr d L) ↦[(rowS j).view.set]{fullShare} (block ix tb (wid L) : BufTy.Contents (Elt F) ⟨S512x128, .f32⟩))
        ∗ srcPts d L tb j ∗ lisPts d L ix j)) : sProp 𝕄) := bigSep_mono fun j _ => hj j
  rw [deliv_gathers]
  unfold kept
  iintro ⟨H, Hsk, Hlk⟩
  ihave H := hall $$ H
  ihave H := (Entails.of_eq (bigSep_sep' _ _ _)) $$ H
  icases H with ⟨Hr, H⟩
  ihave H := (Entails.of_eq (bigSep_sep' _ _ _)) $$ H
  icases H with ⟨Hs, Hl⟩
  isplitl [Hs Hsk]
  · iapply (pieces_split (sh (wid L)) tb (fun _ => tbS.view.set)).2
    isplitl [Hs]; · iexact Hs
    iexact Hsk
  isplitl [Hl Hlk]
  · iapply (pieces_split (ℓ := (thr d L).loc cc0_scratch1) fullShare _ (fun j => (lisS j).view.set)).2
    isplitl [Hl]; · iexact Hl
    iexact Hlk
  iapply (Entails.of_eq (rows_parts d L _).symm); iexact Hr

/-- The bits one row's arrival counts. -/
def rowBits : ℕ := 4096

theorem row_credit (j : Fin 4) (i : Fin (S128x128.size gathers_S1000000x128_S128x128.axis')) :
    ((rowS j).slice (S128x128.rowRect gathers_S1000000x128_S128x128.axis' i) (S128x128.stride_rowRect gathers_S1000000x128_S128x128.axis' i)).view.dmaCredit = rowBits := by
  revert i; revert j; decide

theorem rows_credit (j : Fin 4) : (rowS j).view.dmaCredit = 128 * rowBits := by
  revert j; decide

end Cert.Proof.Launch
-- ==== Proof.Tile.lean ====
/-
  One tile of the row gather, run: it fetches its stretch of the index array, lays it out in four lists, gathers the rows
  the four lists name with all four gathers in flight at once, and writes its block of the result.
-/
module

public import proofs.«01_k».proof.Proof.Gathers

@[expose] public section

noncomputable section

namespace Cert.Proof.Launch

open Cert.KernelIdeal Cert.KernelIdeal.Gen Cert.Proof.Values Cert.Proof.GatherBatch

open Idealize.ShloMosaic
open Idealize.ShloMosaic.SparseCore (S V T rows gatherPayload)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type}

local notation "𝕄" => MT nD τ sig (HIx 1) (Elt F) ℕ UU ℕ

/-! ## The same elements, as the body names them -/

section Names

variable (d : Dev nD) (L : grid0.Coords)

theorem pts_ix (q : PosShare TreeShare) (f : IxArr) :
    (iLoc d ↦{q} (f : Buf (Elt F) (iLoc d)) : sProp 𝕄) ⊣⊢ iprop(((ixS L).view.loc (thr d L) ↦[(ixS L).view.set]{q} (f : Buf (Elt F) (iLoc d)))
      ∗ (ixS L).view.loc (thr d L) ↦[Finset.univ \ (ixS L).view.set]{q} (f : Buf (Elt F) (iLoc d))) :=
  pointsTo_split_subset (Finset.subset_univ _)

theorem pts_ou (f : OuArr F) :
    ((ouS L).view.loc (thr d L) ↦[(ouS L).view.set]{fullShare} f : sProp 𝕄) = oLoc d ↦[outPart (wid L)]{fullShare} f := by
  rw [ouS_set]

theorem pts_fet (f : Buf (Elt F) ((thr d L).loc cc0_scratch0)) :
    (fetM.view.loc (thr d L) ↦{fullShare} f : sProp 𝕄) = (thr d L).loc cc0_scratch0 ↦{fullShare} f := rfl
theorem pts_lis (f : Buf (Elt F) ((thr d L).loc cc0_scratch1)) :
    (lisM.view.loc (thr d L) ↦{fullShare} f : sProp 𝕄) = (thr d L).loc cc0_scratch1 ↦{fullShare} f := rfl
theorem pts_row (f : Buf (Elt F) ((thr d L).loc cc0_scratch2)) :
    (rowM.view.loc (thr d L) ↦{fullShare} f : sProp 𝕄) = (thr d L).loc cc0_scratch2 ↦{fullShare} f := rfl

end Names

variable [FloatOps F]
variable (d : Dev nD) (L : grid0.Coords)

/-- After `t` trips of the loop the first `16 t` entries of the lists are the tile's indices. -/
def inv (ix : IxArr) (t : ℕ) (_ : Unit) : sProp 𝕄 :=
  iprop((fetM.view.loc (thr d L) ↦{fullShare} (fetch ix (wid L) : BufTy.Contents (Elt F) ⟨S512, .i32⟩))
    ∗ ∃ f : BufTy.Contents (Elt F) ⟨S4x128, .i32⟩, ⌜∀ p : S4x128.Idx, 128 * (p 0).val + (p 1).val < 16 * t → f p = lists ix (wid L) p⌝
      ∗ lisM.view.loc (thr d L) ↦{fullShare} f)

/-- The batch of the tile's four gathers, `a` of its rows issued and `u` bits of it waited for. -/
abbrev batch (ix : IxArr) (hix : ∀ x, (ix x).toNat < 1000000) (tb : TbArr F) (fr : BufTy.Contents (Elt F) ⟨S512x128, .f32⟩) (a u : ℕ) : sProp 𝕄 :=
  Transfers.Batch countersEmb (thr d L) (.dma cc0_scratch3.sem) (default : HIx 1) rowBits (deliv d L ix hix tb fr) a u

theorem rows_axis : S128x128.size gathers_S1000000x128_S128x128.axis' = 128 := rfl

/-- The batch's next members at gather `j` are its rows. -/
theorem deliv_member (ix : IxArr) (hix : ∀ x, (ix x).toNat < 1000000) (tb : TbArr F) (fr : BufTy.Contents (Elt F) ⟨S512x128, .f32⟩)
    (j : Fin 4) (hK : 128 * j.val + S128x128.size gathers_S1000000x128_S128x128.axis' ≤ 512) (i : Fin (S128x128.size gathers_S1000000x128_S128x128.axis')) :
    deliv d L ix hix tb fr (member hK i)
      = rowGot (thr d L) tbS (rowS j) gathers_S1000000x128_S128x128 (lisS j) rfl (by decide) (qT (wid L) j) (qL j) tb fr (lists ix (wid L))
          (rows ((lisS j).view.read (Elt F) (lists ix (wid L))) rfl (lists_inb L ix hix j)) i := by
  have hi : i.val < 128 := i.isLt
  have hm : (member hK i).val = 128 * j.val + i.val := rfl
  have e0 : (⟨(member hK i).val / 128, by omega⟩ : Fin 4) = j := Fin.ext (by show (member hK i).val / 128 = j.val; omega)
  have e1 : (⟨(member hK i).val % 128, Nat.mod_lt _ (by decide)⟩ : Fin 128) = i := Fin.ext (by show (member hK i).val % 128 = i.val; omega)
  unfold deliv
  rw [e0, e1]; rfl

/-- The tile's block written out to its rows of the result, as the result there. -/
theorem pts_written (ix : IxArr) (tb : TbArr F) (f : OuArr F) :
    ((ouS L).view.loc (thr d L) ↦[(ouS L).view.set]{fullShare}
        (ouS L).view.writes (Elt F) f [⟨Rect.whole S512x128, (block ix tb (wid L) : BufTy.Contents (Elt F) ⟨S512x128, .f32⟩)⟩] : sProp 𝕄)
      = (ouS L).view.loc (thr d L) ↦[(ouS L).view.set]{fullShare} OUT ix tb := by
  rw [← View.write_univ_eq_writes_whole]
  exact pointsTo_congr fun p hp => ouS_write L ix tb f p hp

/-- Gather `j` issued, the `j` before it in flight: 128 more rows of the batch are on their way. -/
theorem gather_issue (ix : IxArr) (hix : ∀ x, (ix x).toNat < 1000000) (tb : TbArr F) (fr : BufTy.Contents (Elt F) ⟨S512x128, .f32⟩)
    (j : Fin 4) (a b : ℕ) (ha : a = 128 * j.val) (hb : b = a + S128x128.size gathers_S1000000x128_S128x128.axis') {α : Type} {Q : α → sProp 𝕄}
    {k : PUnit → Prog (TpuEff nD τ sig (Elt F) Λ₀ (thr d L).2) α} {hsrc he hsp hr} :
    iprop(srcPts d L tb j ∗ dstPts d L fr j ∗ lisPts d L ix j ∗ batch d L ix hix tb fr a 0)
      ⊢ iprop((batch d L ix hix tb fr b 0 -∗ wp frame (wpE (defs₀ (F := F)) 𝒱₀ (thr d L) none) Set.univ (k ⟨⟩) Q)
          -∗ wp frame (wpE (defs₀ (F := F)) 𝒱₀ (thr d L) none) Set.univ
            (SparseCore.enqueueIndirectGather rfl tbS (rowS j) gathers_S1000000x128_S128x128 (lisS j) rfl cc0_scratch3.sem hsrc he hsp hr >>= k) Q) := by
  subst ha hb
  have hK : 128 * j.val + S128x128.size gathers_S1000000x128_S128x128.axis' ≤ 512 := by rw [rows_axis]; omega
  exact wp_gatherIssue countersEmb 𝒱₀ (thr d L) none (src := tbS) (dst := rowS j) (hg := gathers_S1000000x128_S128x128) (offs := lisS j)
    (q := qT (wid L) j) (qo := qL j) (fs := tb) (fd := fr) (fo := lists ix (wid L)) (n := 512) (D := deliv d L ix hix tb fr) (K := 128 * j.val) (u := 0)
    (default : HIx 1) rowBits (row_credit j) (by decide) hK (Nat.zero_le _) (lists_inb L ix hix j)
    fun i => Entails.of_eq (deliv_member d L ix hix tb fr j hK i).symm

/-- A wait for one of the gathers, not the last: the batch with one gather's bits fewer to wait for. -/
theorem gather_wait (ix : IxArr) (hix : ∀ x, (ix x).toNat < 1000000) (tb : TbArr F) (fr : BufTy.Contents (Elt F) ⟨S512x128, .f32⟩)
    (j : Fin 4) (u v : ℕ) (hv : v = u + 128 * rowBits) (hu : v ≤ rowBits * 512) {O : CellTallies nD τ sig (HIx 1)} {W : Waits sig (HIx 1)}
    {α : Type} {Q : α → sProp 𝕄} {k : PUnit → Prog (TpuEff nD τ sig (Elt F) Λ₀ (thr d L).2) α} {hsrc hdst} :
    iprop(batch d L ix hix tb fr 512 u ∗ owes (thr d L) O W ∗ MayWait (thr d L) (.dma cc0_scratch3.sem) (default : HIx 1) O)
      ⊢ iprop((iprop(batch d L ix hix tb fr 512 v ∗ owes (thr d L) O (insert (SemLoc.dma cc0_scratch3.sem, (default : HIx 1)) W))
            -∗ wp frame (wpE (defs₀ (F := F)) 𝒱₀ (thr d L) none) Set.univ (k ⟨⟩) Q)
          -∗ wp frame (wpE (defs₀ (F := F)) 𝒱₀ (thr d L) none) Set.univ
            (SparseCore.waitIndirectGather cc0_scratch3.sem tbS (rowS j) hsrc hdst >>= k) Q) := by
  subst hv
  exact Transfers.wp_waitBatchMulO countersEmb 𝒱₀ (thr d L) none (default : HIx 1) 128 (rows_credit j) hu

/-- The last wait: every row has arrived. -/
theorem gather_wait_last (ix : IxArr) (hix : ∀ x, (ix x).toNat < 1000000) (tb : TbArr F) (fr : BufTy.Contents (Elt F) ⟨S512x128, .f32⟩)
    (j : Fin 4) {O : CellTallies nD τ sig (HIx 1)} {W : Waits sig (HIx 1)}
    {α : Type} {Q : α → sProp 𝕄} {k : PUnit → Prog (TpuEff nD τ sig (Elt F) Λ₀ (thr d L).2) α} {hsrc hdst} :
    iprop(batch d L ix hix tb fr 512 (384 * rowBits) ∗ owes (thr d L) O W ∗ MayWait (thr d L) (.dma cc0_scratch3.sem) (default : HIx 1) O)
      ⊢ iprop((iprop(bigSep Finset.univ (deliv d L ix hix tb fr) ∗ semVal (gatCell d L) 0
              ∗ owes (thr d L) O (insert (SemLoc.dma cc0_scratch3.sem, (default : HIx 1)) W))
            -∗ wp frame (wpE (defs₀ (F := F)) 𝒱₀ (thr d L) none) Set.univ (k ⟨⟩) Q)
          -∗ wp frame (wpE (defs₀ (F := F)) 𝒱₀ (thr d L) none) Set.univ
            (SparseCore.waitIndirectGather cc0_scratch3.sem tbS (rowS j) hsrc hdst >>= k) Q) :=
  Transfers.wp_waitBatchAllO countersEmb 𝒱₀ (thr d L) none (default : HIx 1) (rows_credit j) (by decide) (by decide)

set_option maxHeartbeats 4000000 in
/-- The body on the subcore at `L`: from what the tile is handed to what it hands back, its rows of the result the rows
    its indices name, its own buffers and counters as they were found. -/
theorem tile_body (ix : Dev nD → IxArr) (hix : ∀ d x, (ix d x).toNat < 1000000) (tb : Dev nD → TbArr F) (ou : Dev nD → OuArr F)
    (O : CellTallies nD τ sig (HIx 1)) (W : Waits sig (HIx 1)) (hO : ∀ g, O g none = 0) :
    iprop(levAts (K (F := F)).L (K (F := F)).lev ∗ emp ∗ held ix tb d (wid L) (ou d)
        ∗ scopedBufs (thr d L) ∗ scopedSems0 (thr d L) ∗ owes (thr d L) O W)
      ⊢ wp frame (wpE (defs₀ (F := F)) 𝒱₀ (thr d L) none) Set.univ
          (cc0__gather_body L tbM (Memref.isWhole_whole _) ixM (Memref.isWhole_whole _) ouM (Memref.isWhole_whole _)
            fetM (Memref.isWhole_whole _) lisM (Memref.isWhole_whole _) rowM (Memref.isWhole_whole _) cc0_scratch3 cc0_scratch4 cc0_scoped0)
          fun _ => iprop(held ix tb d (wid L) (OUT (ix d) (tb d))
            ∗ scopedBufs (thr d L) ∗ scopedSems0 (thr d L)
            ∗ ∃ W', ⌜∀ p ∈ W', p ∈ W ∨ p.2 = none⌝ ∗ owes (thr d L) O W') := by
  simp only [cc0__gather_body_eq_skeleton, cc0__gather_body_skel, k0_part1_eq_skeleton, k0_part1_skel, bind_assoc, pure_bind]
  rw [(K (F := F)).scopedBufs_V facts d (cV L) (jV L), SparseCore.Cfg.scopedSems0_V (Val := Elt F) d (cV L) (jV L), ownSems0_V, ownBufs_V]
  unfold held
  iintro ⟨#Hlv, -, ⟨Hi, Ht, Ho⟩, ⟨⟨%ff, Hf⟩, ⟨%fl, Hl⟩, ⟨%fr, Hr⟩, Hbufs⟩, ⟨HsemF, HsemG, HsemO, Hsems⟩, HO⟩
  ihave Hmw := (show levAts (K (F := F)).L (K (F := F)).lev ⊢ Transfers.MayWaits (thr d L) (default : HIx 1) O from
    (K (F := F)).mayWaits_none (thr := thr d L) hO) $$ Hlv
  ihave Hi := (pts_ix (F := F) d L _ _).1 $$ Hi
  icases Hi with ⟨Hi, Hik⟩
  ihave Ho := (Entails.of_eq (pts_ou (F := F) d L _).symm) $$ Ho
  ihave Hf := (Entails.of_eq (pts_fet (F := F) d L _).symm) $$ Hf
  ihave Hl := (Entails.of_eq (pts_lis (F := F) d L _).symm) $$ Hl
  sl_exec
  ihave Hf := (Entails.of_eq (show (fetM.view.loc (thr d L) ↦{fullShare} View.write (Elt F) fetM.view ff (tile_body.sl.dma0 d L ix) Finset.univ : sProp 𝕄)
      = fetM.view.loc (thr d L) ↦{fullShare} (fetch (ix d) (wid L) : BufTy.Contents (Elt F) ⟨S512, .i32⟩) by
        rw [View.write_whole_univ, show tile_body.sl.dma0 (F := F) d L ix = fetch (ix d) (wid L) from ixS_read (F := F) L (ix d)])) $$ Hf
  sl_for (inv d L (ix d)) $$ [Hf Hl]
  case region =>
    intro k _
    unfold inv
    iintro ⟨Hf, %f, %hf, Hl⟩
    sl_exec
    sl_step
    isplitl [Hf]; · iexact Hf
    iexists _; isplitr
    swap; · iexact Hl
    ipureintro
    exact trip_writes k (wid L) (ix d) f hf _ _
  · unfold inv
    isplitl [Hf]; · iexact Hf
    iexists _; isplitr
    swap; · iexact Hl
    ipureintro; intro p hp; exact absurd hp (by omega)
  iintro %_ HI
  unfold inv
  icases HI with ⟨Hf, %f, %hf, Hl⟩
  have hfull : f = (lists (ix d) (wid L) : BufTy.Contents (Elt F) ⟨S4x128, .i32⟩) := funext fun p => hf p (grid_lt p)
  subst hfull
  ihave Hl := (Entails.of_eq (pts_lis (F := F) d L _)) $$ Hl
  ihave H := (hand_out d L (ix d) (tb d) fr) $$ [Ht Hl Hr]
  · isplitl [Ht]; · iexact Ht
    isplitl [Hl]; · iexact Hl
    iexact Hr
  icases H with ⟨⟨Hs0, Hs1, Hs2, Hs3⟩, ⟨Hl0, Hl1, Hl2, Hl3⟩, ⟨Hd0, Hd1, Hd2, Hd3⟩, Hkept⟩
  imod (Transfers.batch_alloc' countersEmb (thr d L) (sm := .dma cc0_scratch3.sem) (default : HIx 1) rowBits
    (deliv d L (ix d) (hix d) (tb d) fr)) $$ HsemG with HB
  iapply (gather_issue d L (ix d) (hix d) (tb d) fr 0 0 128 rfl rfl) $$ [Hs0 Hd0 Hl0 HB]
  · isplitl [Hs0]; · iexact Hs0
    isplitl [Hd0]; · iexact Hd0
    isplitl [Hl0]; · iexact Hl0
    iexact HB
  iintro HB
  iapply (gather_issue d L (ix d) (hix d) (tb d) fr 1 128 256 rfl rfl) $$ [Hs1 Hd1 Hl1 HB]
  · isplitl [Hs1]; · iexact Hs1
    isplitl [Hd1]; · iexact Hd1
    isplitl [Hl1]; · iexact Hl1
    iexact HB
  iintro HB
  iapply (gather_issue d L (ix d) (hix d) (tb d) fr 2 256 384 rfl rfl) $$ [Hs2 Hd2 Hl2 HB]
  · isplitl [Hs2]; · iexact Hs2
    isplitl [Hd2]; · iexact Hd2
    isplitl [Hl2]; · iexact Hl2
    iexact HB
  iintro HB
  iapply (gather_issue d L (ix d) (hix d) (tb d) fr 3 384 512 rfl rfl) $$ [Hs3 Hd3 Hl3 HB]
  · isplitl [Hs3]; · iexact Hs3
    isplitl [Hd3]; · iexact Hd3
    isplitl [Hl3]; · iexact Hl3
    iexact HB
  iintro HB
  iapply (gather_wait d L (ix d) (hix d) (tb d) fr 0 0 (128 * rowBits) (by decide) (by decide)) $$ [HB HO]
  · isplitl [HB]; · iexact HB
    isplitl [HO]; · iexact HO
    iapply (Transfers.MayWaits.elim (SemLoc.dma cc0_scratch3.sem)) $$ Hmw
  iintro ⟨HB, HO⟩
  iapply (gather_wait d L (ix d) (hix d) (tb d) fr 1 (128 * rowBits) (256 * rowBits) (by decide) (by decide)) $$ [HB HO]
  · isplitl [HB]; · iexact HB
    isplitl [HO]; · iexact HO
    iapply (Transfers.MayWaits.elim (SemLoc.dma cc0_scratch3.sem)) $$ Hmw
  iintro ⟨HB, HO⟩
  iapply (gather_wait d L (ix d) (hix d) (tb d) fr 2 (256 * rowBits) (384 * rowBits) (by decide) (by decide)) $$ [HB HO]
  · isplitl [HB]; · iexact HB
    isplitl [HO]; · iexact HO
    iapply (Transfers.MayWaits.elim (SemLoc.dma cc0_scratch3.sem)) $$ Hmw
  iintro ⟨HB, HO⟩
  iapply (gather_wait_last d L (ix d) (hix d) (tb d) fr 3) $$ [HB HO]
  · isplitl [HB]; · iexact HB
    isplitl [HO]; · iexact HO
    iapply (Transfers.MayWaits.elim (SemLoc.dma cc0_scratch3.sem)) $$ Hmw
  iintro ⟨HB, HsemG, HO⟩
  ihave H := (collect d L (ix d) (hix d) (tb d) fr) $$ [HB Hkept]
  · isplitl [HB]; · iexact HB
    iexact Hkept
  icases H with ⟨Ht, Hl, Hr⟩
  ihave Hr := (Entails.of_eq (pts_row (F := F) d L _).symm) $$ Hr
  sl_exec
  sl_step
  ihave Ho := (Entails.of_eq (show ((ouS L).view.loc (thr d L) ↦[(ouS L).view.set]{fullShare}
        (ouS L).view.writes (Elt F) (ou d) [⟨Rect.whole S512x128, tile_body.sl.dma0_1 d L ix tb⟩] : sProp 𝕄)
      = (ouS L).view.loc (thr d L) ↦[(ouS L).view.set]{fullShare} OUT (ix d) (tb d) by
        rw [show tile_body.sl.dma0_1 (F := F) d L ix tb = block (ix d) (tb d) (wid L) by unfold tile_body.sl.dma0_1; rfl]
        exact pts_written d L (ix d) (tb d) (ou d))) $$ Ho
  ihave Ho := (Entails.of_eq (pts_ou (F := F) d L _)) $$ Ho
  isplitl [Hik Ht Ho]
  · isplitl [Hik]; · iexact Hik
    isplitl [Ht]; · iexact Ht
    iexact Ho
  isplitl [Hf Hl Hr Hbufs]
  · isplitl [Hf]; · iexists _; iexact Hf
    isplitl [Hl]; · iexists _; iexact Hl
    isplitl [Hr]; · iexists _; iexact Hr
    iexact Hbufs
  isplitl [HsemF HsemG HsemO Hsems]
  · isplitl [HsemF]; · iexact HsemF
    isplitl [HsemG]; · iexact HsemG
    isplitl [HsemO]; · iexact HsemO
    iexact Hsems
  iexists _; isplitr [HO]
  rotate_left
  · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Proof.Launch
-- ==== Proof.Main.lean ====
/-
  The run of the whole program: the host pads the table, the tiles gather the padded rows, the host cuts the padding off.
  The arguments end as they were, the result is the table's rows at the indices, and every counter is back at zero.
-/
module

public import proofs.«01_k».proof.Proof.Tile
public import Idealize.ShloMosaic.Lib.ReduceAll

@[expose] public section

noncomputable section

namespace Cert.Proof.Launch

open Cert.KernelIdeal Cert.KernelIdeal.Gen Cert.Proof.Values Cert.Proof.GatherBatch

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx

variable {F : FTy → Type}

local notation "𝕄" => MT nD τ sig (HIx 1) (Elt F) ℕ UU ℕ

/-! ## A tile's obligation -/

section Obligation

variable [FloatOps F]

/-- The mesh coordinates of subcore `s` on core `c`. -/
def at₂ (c : Fin (grid0.bound 0)) (s : Fin (grid0.bound 1)) : grid0.Coords :=
  fun | 0 => c | 1 => s | ⟨_ + 2, h⟩ => absurd h (Nat.not_lt.2 (Nat.le_add_left _ _))

/-- What a vector subcore runs when the call reaches it. -/
theorem vector_body (c : Fin τ.nSC) (s : Fin τ.nSub) :
    defs₀ (F := F) (.scVector c s) 0 ()
      = SparseCore.onTile hcore0 hsub0 (fun c s => cc0__gather_body (at₂ c s)
          tbM (Memref.isWhole_whole _) ixM (Memref.isWhole_whole _) ouM (Memref.isWhole_whole _)
          fetM (Memref.isWhole_whole _) lisM (Memref.isWhole_whole _) rowM (Memref.isWhole_whole _) cc0_scratch3 cc0_scratch4 cc0_scoped0) ⟨⟩ c s := rfl

omit [FloatOps F] in
/-- Waits at the index of no call are among the waits the call allows. -/
theorem weaken_waits {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %h, HO⟩
  isplitl [HA]; · iexact HA
  isplitl [HB]; · iexact HB
  isplitl [HC]; · iexact HC
  iexists W'; isplitr
  · ipureintro; exact fun p hp => (h p hp).imp_right .inl
  iexact HO

set_option maxRecDepth 16384 in
/-- Every tile does what the call asks of it. -/
theorem tiles_do (ix : Dev nD → IxArr) (hix : ∀ d x, (ix d x).toNat < 1000000) (tb : Dev nD → TbArr F) (ou : Dev nD → OuArr F) :
    (K (F := F)).TileObl (D (F := F)) 𝒱 (P ix tb ou) v₀ 0 := by
  intro d c i O W hO _ _
  simp only [show (P ix tb ou).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [vector_body]; simp only [SparseCore.onTile, hci, and_self, ↓reduceDIte]
  have hn : num c.val i.val = wid (at₂ ⟨_, hci.1⟩ ⟨_, hci.2⟩) := num_wid (at₂ ⟨_, hci.1⟩ ⟨_, hci.2⟩)
  have hgo : (P ix tb ou).go 0 d c i = held ix tb d (wid (at₂ ⟨_, hci.1⟩ ⟨_, hci.2⟩)) (ou d) := congrArg (fun w => held ix tb d w (ou d)) hn
  have htd : (P ix tb ou).td 0 d c i = held ix tb d (wid (at₂ ⟨_, hci.1⟩ ⟨_, hci.2⟩)) (OUT (ix d) (tb d)) :=
    congrArg (fun w => held ix tb d w (OUT (ix d) (tb d))) hn
  rw [hgo, htd]
  exact (tile_body d (at₂ ⟨_, hci.1⟩ ⟨_, hci.2⟩) ix hix tb ou O W hO).trans (wp_mono frame _ _ fun _ => weaken_waits)

end Obligation

/-! ## The operands, tile by tile -/

/-- Over the cores and their subcores is over the 32 tiles. -/
theorem over_tiles (Φ : Fin 32 → sProp 𝕄) :
    (bigSep Finset.univ fun c : Fin 2 => bigSep Finset.univ fun i : Fin 16 => Φ (num c.val i.val)) = bigSep Finset.univ Φ := by
  rw [bigSep_univ_equiv ((Equiv.prodComm (Fin 2) (Fin 16)).trans (finProdFinEquiv : Fin 16 × Fin 2 ≃ Fin 32)), bigSep_univ_prod]
  refine bigSep_congr fun c _ => bigSep_congr fun i _ => congrArg Φ (Fin.ext ?_)
  have hc := c.isLt; have hi := i.isLt
  show (2 * i.val + c.val) % 32 = c.val + 2 * i.val
  omega

/-- What the 32 tiles hold is the three arrays whole. -/
theorem held_all (ix : Dev nD → IxArr) (tb : Dev nD → TbArr F) (d : Dev nD) (f : OuArr F) :
    (bigSep Finset.univ fun w : Fin 32 => held ix tb d w f)
      = (iprop((iLoc d ↦{fullShare} (ix d : Buf (Elt F) (iLoc d))) ∗ (tLoc d ↦{fullShare} tb d) ∗ oLoc d ↦{fullShare} f) : sProp 𝕄) := by
  have hi : (bigSep Finset.univ fun w : Fin 32 => (iLoc d ↦{sh w} (ix d : Buf (Elt F) (iLoc d)) : sProp 𝕄)) = (iLoc d ↦{fullShare} (ix d : Buf (Elt F) (iLoc d))) :=
    (pointsTo_piecesOf (ℓ := iLoc d) Finset.univ _ (show 0 < 32 by decide) fullShare).symm
  have ht : (bigSep Finset.univ fun w : Fin 32 => (tLoc d ↦{sh w} tb d : sProp 𝕄)) = (tLoc d ↦{fullShare} tb d) :=
    (pointsTo_piecesOf (ℓ := tLoc d) Finset.univ _ (show 0 < 32 by decide) fullShare).symm
  have ho : (bigSep Finset.univ fun w : Fin 32 => (oLoc d ↦[outPart w]{fullShare} f : sProp 𝕄)) = (oLoc d ↦{fullShare} f) := by
    rw [show (Finset.univ : Finset (Idx (oLoc d))) = Finset.univ.biUnion outPart from out_cover,
      pointsTo_biUnion Finset.univ (ℓ := oLoc d) outPart out_disjoint]
  unfold held
  rw [bigSep_sep', bigSep_sep', hi, ht, ho]

theorem st_all (ix : Dev nD → IxArr) (tb : Dev nD → TbArr F) (ou : Dev nD → OuArr F) (d : Dev nD) :
    (bigSep Finset.univ fun c : Fin ((K (F := F)).nCore 0) => (P ix tb ou).st 0 d c)
      = (iprop((iLoc d ↦{fullShare} (ix d : Buf (Elt F) (iLoc d))) ∗ (tLoc d ↦{fullShare} tb d) ∗ oLoc d ↦{fullShare} ou d) : sProp 𝕄) :=
  (over_tiles (F := F) fun w => held ix tb d w (ou d)).trans (held_all ix tb d (ou d))

theorem dn_all (ix : Dev nD → IxArr) (tb : Dev nD → TbArr F) (ou : Dev nD → OuArr F) (d : Dev nD) :
    (bigSep Finset.univ fun c : Fin ((K (F := F)).nCore 0) => (P ix tb ou).dn 0 d c)
      = (iprop((iLoc d ↦{fullShare} (ix d : Buf (Elt F) (iLoc d))) ∗ (tLoc d ↦{fullShare} tb d) ∗ oLoc d ↦{fullShare} (OUT (ix d) (tb d) : OuArr F)) : sProp 𝕄) :=
  (over_tiles (F := F) fun w => held ix tb d w (OUT (ix d) (tb d))).trans (held_all ix tb d (OUT (ix d) (tb d)))

/-! ## The ghost state the launch begins with -/

def u₀ : UU := (initOf (K (F := F)).hsCells (K (F := F)).hsToks, 1)

/-- Any number of nothings is nothing. -/
theorem emps {I : Type} (s : Finset I) : (bigSep s fun _ => iprop(emp)) = (iprop(emp) : sProp 𝕄) := bigSep_emp_const s

/-- It pays for the call's messages; the tiles need nothing more. -/
theorem ghost (ix : Dev nD → IxArr) (tb : Dev nD → TbArr F) (ou : Dev nD → OuArr F) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P ix tb ou).x q t) := by
  unfold u₀
  iintro Hu
  ihave H := (ownU_pair (initOf (K (F := F)).hsCells (K (F := F)).hsToks) (1 : Counters)) $$ Hu
  icases H with ⟨HH, -⟩
  imodintro
  isplitl [HH]; · iexact HH
  isplitr
  · rw [emps]; iempintro
  rw [show (bigSep Finset.univ fun t : Thread nD τ => bigSep Finset.univ fun q : Fin 1 => (P ix tb ou).x q t) = (bigSep Finset.univ fun _ => iprop(emp) : sProp 𝕄) from
    bigSep_congr fun _ _ => bigSep_univ_of_subsingleton (0 : Fin 1), emps]
  iempintro

/-! ## The host's part -/

section Host

variable [FloatOps F]

/-- The other arrays of the program: the table, the zero, the zeros, the cut result. -/
abbrev xLoc (d : Dev nD) : Loc nD τ sig := (SparseCore.T d).loc main_arg1
abbrev rLoc (d : Dev nD) : Loc nD τ sig := (SparseCore.T d).loc main_v3

abbrev opZero : HloOp τ sig (Elt F) := StableHlo.nullary main_cst (constant S_ .f32 0x00000000#32)
abbrev opZeros : HloOp τ sig (Elt F) := StableHlo.unary main_cst main_v0
  (broadcastInDim S1000000x64 ![] bcast_S_S1000000x64 : (⟨S_, .f32⟩ : BufTy).Contents (Elt F) → (⟨S1000000x64, .f32⟩ : BufTy).Contents (Elt F))
abbrev opPad : HloOp τ sig (Elt F) := StableHlo.binary main_arg1 main_v0 main_v1
  ((fun a b => concatenate S1000000x128 1 [⟨S1000000x64, a⟩, ⟨S1000000x64, b⟩] concatenates_S1000000x64_S1000000x64_S1000000x128_d1) :
    (⟨S1000000x64, .f32⟩ : BufTy).Contents (Elt F) → (⟨S1000000x64, .f32⟩ : BufTy).Contents (Elt F) → (⟨S1000000x128, .f32⟩ : BufTy).Contents (Elt F))
abbrev opCut : HloOp τ sig (Elt F) := StableHlo.unary main_v2 main_v3
  ((extractStridedSlice S16384x64 ![0, 0] · slices_S16384x128_S16384x64_0_0) : (⟨S16384x128, .f32⟩ : BufTy).Contents (Elt F) → (⟨S16384x64, .f32⟩ : BufTy).Contents (Elt F))

abbrev dv (b : Ref sig .tc) : DevRef τ sig := Proc.devRef .tc b

/-- Every array of the program. -/
abbrev arrays : Finset (DevRef τ sig) := {dv main_arg0, dv main_arg1, dv main_cst, dv main_v0, dv main_v1, dv main_v2, dv main_v3}

omit [FloatOps F] in
theorem arrays_held (d : Dev nD) (W : Valuation τ sig (Elt F)) :
    (StableHlo.held (T d) arrays W : sProp 𝕄)
      = iprop((iLoc d ↦{fullShare} W (dv main_arg0)) ∗ (xLoc d ↦{fullShare} W (dv main_arg1)) ∗ ((SparseCore.T d).loc main_cst ↦{fullShare} W (dv main_cst))
        ∗ ((SparseCore.T d).loc main_v0 ↦{fullShare} W (dv main_v0)) ∗ (tLoc d ↦{fullShare} W (dv main_v1)) ∗ (oLoc d ↦{fullShare} W (dv main_v2))
        ∗ (rLoc d ↦{fullShare} W (dv main_v3))) := by
  unfold StableHlo.held arrays
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

set_option maxRecDepth 16384 in
omit [FloatOps F] in
theorem unscoped_arrays (d : Dev nD) (m : (ℓ : Loc nD τ sig) → Buf (Elt F) ℓ) :
    (unscopedBufs d (fun b => m ((SparseCore.T d).loc b)) : sProp 𝕄) = StableHlo.held (T d) arrays (fun b => m (d, b)) := by
  rw [arrays_held]
  unfold unscopedBufs
  rw [show (Finset.univ.filter fun b : Ref sig .tc => ¬ b.isScoped) = {main_arg0, main_arg1, main_cst, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

variable (m : (ℓ : Loc nD τ sig) → Buf (Elt F) ℓ)

/-- The indices, the padded table, what the result holds at first; and the result cut, as the launch memory gives them. -/
def ixOf (d : Dev nD) : IxArr := m (iLoc d)
def tbOf (d : Dev nD) : TbArr F :=
  concatenate S1000000x128 1 [⟨S1000000x64, (m (xLoc d) : BufTy.Contents (Elt F) ⟨S1000000x64, .f32⟩)⟩,
    ⟨S1000000x64, (broadcastInDim S1000000x64 ![] bcast_S_S1000000x64 (constant S_ .f32 0x00000000#32) : BufTy.Contents (Elt F) ⟨S1000000x64, .f32⟩)⟩]
    concatenates_S1000000x64_S1000000x64_S1000000x128_d1
def ouOf (d : Dev nD) : OuArr F := m (oLoc d)
def cutOf (d : Dev nD) : BufTy.Contents (Elt F) ⟨S16384x64, .f32⟩ :=
  extractStridedSlice S16384x64 ![0, 0] (OUT (ixOf m d) (tbOf m d)) slices_S16384x128_S16384x64_0_0

/-- The arrays when the call begins, when it ends, and at the end. -/
def before (d : Dev nD) : Valuation τ sig (Elt F) := opPad.result (opZeros.result (opZero.result fun b => m (d, b)))
def called (d : Dev nD) : Valuation τ sig (Elt F) := Function.update (before m d) (dv main_v2) (OUT (ixOf m d) (tbOf m d) : OuArr F)
def ended (d : Dev nD) : Valuation τ sig (Elt F) := opCut.result (called m d)

theorem before_kept (d : Dev nD) {b : Ref sig .tc} (h0 : b ≠ main_cst) (h1 : b ≠ main_v0) (h2 : b ≠ main_v1) : before m d (dv b) = m (d, dv b) := by
  unfold before
  rw [StableHlo.binary_result_ne _ _ _ _ _ _ _ _ h2, StableHlo.unary_result_ne _ _ _ _ _ _ h1, StableHlo.nullary_result_ne _ _ _ _ h0]

theorem before_tb (d : Dev nD) : before m d (dv main_v1) = tbOf m d := by
  unfold before tbOf
  rw [StableHlo.binary_result, StableHlo.unary_result_ne _ _ _ _ _ _ (show main_arg1 ≠ main_v0 by decide),
    StableHlo.nullary_result_ne _ _ _ _ (show main_arg1 ≠ main_cst by decide), StableHlo.unary_result, StableHlo.nullary_result]

theorem called_ne (d : Dev nD) {b : Ref sig .tc} (h : dv b ≠ dv main_v2) : called m d (dv b) = before m d (dv b) :=
  Function.update_of_ne h _ _
theorem called_out (d : Dev nD) : called m d (dv main_v2) = OUT (ixOf m d) (tbOf m d) := Function.update_self _ _ _

theorem ended_ne (d : Dev nD) {b : Ref sig .tc} (h : b ≠ main_v3) : ended m d (dv b) = called m d (dv b) := by
  unfold ended; rw [StableHlo.unary_result_ne _ _ _ _ _ _ h]
theorem ended_cut (d : Dev nD) : ended m d (dv main_v3) = cutOf m d := by
  unfold ended cutOf; rw [StableHlo.unary_result, called_out]

/-- What the host keeps: the arguments as they were, and the cut result. -/
abbrev final (d : Dev nD) : sProp 𝕄 := iprop((iLoc d ↦{fullShare} m (iLoc d)) ∗ (xLoc d ↦{fullShare} m (xLoc d)) ∗ rLoc d ↦{fullShare} cutOf m d)

variable (ρ : Dev nD → PrngReg)

set_option maxRecDepth 16384 in
/-- The host program on device `d`: it pads, calls, cuts. -/
theorem host (κ : GSem nD τ sig → ℕ) (d : Dev nD) :
    iprop((K (F := F)).ctx EH (P (ixOf m) (tbOf m) (ouOf m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ final m d ∗ (K (F := F)).tcEnd d) := by
  unfold SparseCore.Cfg.tcRes SparseCore.Cfg.tcEnd
  rw [unscoped_arrays]
  simp only [main, wp_bind, wp_pure]
  iintro ⟨#Hctx, Hst, ⟨Hb, Hheld, Hts, -⟩, -⟩
  iapply (StableHlo.wp_hlo_within 𝒱 (SparseCore.T d) none Set.univ (op := opZero) (S := arrays) (show ({dv main_cst} : Finset (DevRef τ sig)) ⊆ arrays by decide) (V := fun b => m (d, b))) $$ [Hb Hheld]
  · isplitl [Hb]; · iexact Hb
    iexact Hheld
  iintro ⟨Hb, Hheld⟩
  rw [wp_ret]; imodintro
  iapply (StableHlo.wp_hlo_within 𝒱 (SparseCore.T d) none Set.univ (op := opZeros) (S := arrays) (show ({dv main_cst, dv main_v0} : Finset (DevRef τ sig)) ⊆ arrays by decide)) $$ [Hb Hheld]
  · isplitl [Hb]; · iexact Hb
    iexact Hheld
  iintro ⟨Hb, Hheld⟩
  rw [wp_ret]; imodintro
  iapply (StableHlo.wp_hlo_within 𝒱 (SparseCore.T d) none Set.univ (op := opPad) (S := arrays) (show ({dv main_arg1, dv main_v0, dv main_v1} : Finset (DevRef τ sig)) ⊆ arrays by decide)) $$ [Hb Hheld]
  · isplitl [Hb]; · iexact Hb
    iexact Hheld
  iintro ⟨Hb, Hheld⟩
  rw [wp_ret]; imodintro
  ihave Hh := (Entails.of_eq (show (StableHlo.held (SparseCore.T d) arrays (opPad.result (opZeros.result (opZero.result fun b => m (d, b)))) : sProp 𝕄) = _ from
    arrays_held (F := F) d (before m d))) $$ Hheld
  icases Hh with ⟨Hi, Hx, Hc, Hz, Ht, Ho, Hr⟩
  rw [before_kept m d (b := main_arg0) (by decide) (by decide) (by decide), before_tb, before_kept m d (b := main_v2) (by decide) (by decide) (by decide)]
  iapply ((K (F := F)).wp_run (D (F := F)) 𝒱 (EH := EH) (P := P (ixOf m) (tbOf m) (ouOf m)) κ d 0) $$ [Hst Hi Hx Hc Hz Ht Ho Hr Hb Hts]
  isplitr; · iexact Hctx
  isplitl [Hst]; · iexact Hst
  isplitl [Hi Ht Ho]
  · rw [st_all]
    isplitl [Hi]; · iexact Hi
    isplitl [Ht]; · iexact Ht
    iexact Ho
  iintro ⟨Hst, Hdn⟩
  ihave Hdn := (Entails.of_eq (dn_all (F := F) (ixOf m) (tbOf m) (ouOf m) d)) $$ Hdn
  icases Hdn with ⟨Hi, Ht, Ho⟩
  iapply (StableHlo.wp_hlo_within 𝒱 (SparseCore.T d) none Set.univ (op := opCut) (S := arrays) (show ({dv main_v2, dv main_v3} : Finset (DevRef τ sig)) ⊆ arrays by decide) (V := called m d)) $$ [Hb Hi Hx Hc Hz Ht Ho Hr]
  · isplitl [Hb]; · iexact Hb
    rw [arrays_held, called_out, called_ne m d (b := main_arg0) (by decide), called_ne m d (b := main_arg1) (by decide), called_ne m d (b := main_cst) (by decide),
      called_ne m d (b := main_v0) (by decide), called_ne m d (b := main_v1) (by decide), called_ne m d (b := main_v3) (by decide),
      before_kept m d (b := main_arg0) (by decide) (by decide) (by decide), before_tb]
    isplitl [Hi]; · iexact Hi
    isplitl [Hx]; · iexact Hx
    isplitl [Hc]; · iexact Hc
    isplitl [Hz]; · iexact Hz
    isplitl [Ht]; · iexact Ht
    isplitl [Ho]; · iexact Ho
    iexact Hr
  iintro ⟨Hb, Hheld⟩
  ihave Hh := (Entails.of_eq (show (StableHlo.held (SparseCore.T d) arrays (opCut.result (called m d)) : sProp 𝕄) = _ from
    arrays_held (F := F) d (ended m d))) $$ Hheld
  rw [ended_cut, ended_ne m d (b := main_arg0) (by decide), ended_ne m d (b := main_arg1) (by decide), called_ne m d (b := main_arg0) (by decide),
    called_ne m d (b := main_arg1) (by decide), before_kept m d (b := main_arg0) (by decide) (by decide) (by decide),
    before_kept m d (b := main_arg1) (by decide) (by decide) (by decide)]
  icases Hh with ⟨Hi, Hx, -, -, -, -, Hr⟩
  rw [wp_ret]; imodintro; imodintro
  isplitl [Hst]; · iexact Hst
  isplitr [Hb Hts]
  · isplitl [Hi]; · iexact Hi
    isplitl [Hx]; · iexact Hx
    iexact Hr
  isplitl [Hb] <;> iassumption

/-- What a final state of device `d` shows. -/
def shows (d : Dev nD) (s : Phys nD τ sig (Elt F)) : Prop :=
  s.mem.mem (iLoc d) = m (iLoc d) ∧ s.mem.mem (xLoc d) = m (xLoc d) ∧ s.mem.mem (rLoc d) = cutOf m d

set_option maxRecDepth 16384 in
theorem final_shows (d : Dev nD) (s : Phys nD τ sig (Elt F)) : iprop(final m d ∗ SI s) ⊢ (⌜shows m d s⌝ : sProp 𝕄) := by
  iintro ⟨⟨Hi, Hx, Hr⟩, HS⟩
  ihave H := (persistent_entails_right (SI_pointsTo_agree (st := s) (ℓ := iLoc d) (I := Finset.univ) (q := fullShare) (f := m (iLoc d)))) $$ [HS Hi]
  · isplitl [HS] <;> iassumption
  icases H with ⟨%h1, HS, -⟩
  ihave H := (persistent_entails_right (SI_pointsTo_agree (st := s) (ℓ := xLoc d) (I := Finset.univ) (q := fullShare) (f := m (xLoc d)))) $$ [HS Hx]
  · isplitl [HS] <;> iassumption
  icases H with ⟨%h2, HS, -⟩
  ihave H := (SI_pointsTo_agree (st := s) (ℓ := rLoc d) (I := Finset.univ) (q := fullShare) (f := cutOf m d)) $$ [HS Hr]
  · isplitl [HS] <;> iassumption
  icases H with %h3
  ipureintro
  exact ⟨funext fun i => h1 i (Finset.mem_univ i), funext fun i => h2 i (Finset.mem_univ i), funext fun i => h3 i (Finset.mem_univ i)⟩

/-- The run: from a launch memory whose indices name rows of the table, every execution ends with the arguments as they
    were, the result the padded table's rows cut, and all counters zero. -/
theorem run_main [∀ e, Nonempty (Elt F e)] (hix : ∀ d x, (ixOf m d x).toNat < 1000000) :
    θ_run (defs (F := F)) (threads (F := F)) ⟨m, fun _ => 0, ρ⟩
      (fun r => (∀ d : Dev nD, r.2.mem (iLoc d) = m (iLoc d) ∧ r.2.mem (xLoc d) = m (xLoc d) ∧ r.2.mem (rLoc d) = cutOf m d) ∧ r.2.sem = fun _ => 0) :=
  SparseCore.Cfg.θ_run_sc_quiescent (K := K (F := F)) (D := D (F := F)) (𝒱 := 𝒱) (EH := EH) (P := P (ixOf m) (tbOf m) (ouOf m)) (A := ∅) facts v₀
    (fun q hq => match q with | 0 => nomatch hq)
    (fun q _ => match q with | 0 => tiles_do (ixOf m) hix (tbOf m) (ouOf m))
    (fun q _ => match q with | 0 => SparseCore.Cfg.VecSplit.of_plain (vecSplit (ixOf m) (tbOf m) (ouOf m)))
    m ρ main (fun _ => iprop(emp)) (final m) (u₀ (F := F)) (sep_elim_left.trans (ghost (ixOf m) (tbOf m) (ouOf m))) (host m ρ) (shows m) (final_shows m) _
    (fun _ h hz => ⟨h, hz⟩)

/-- Row `n` of the cut result is the table's row at index `n`. -/
theorem cutOf_apply (d : Dev nD) (j : S16384x64.Idx) :
    cutOf m d j = (m (xLoc d) : BufTy.Contents (Elt F) ⟨S1000000x64, .f32⟩) (ix2 (pick (ixOf m d) (j 0)) (j 1)) := by
  unfold cutOf
  have hj : (j 1).val < 64 := (j 1).isLt
  refine (extractStridedSlice_apply ![0, 0] _ slices_S16384x128_S16384x64_0_0 j (ix2 (j 0) (⟨(j 1).val, by omega⟩ : Fin 128)) (by
    intro a; fin_cases a <;> simp [ix2])).trans ?_
  unfold OUT tbOf
  exact concatenate_pair_apply_left (s₁ := S1000000x64) (s₂ := S1000000x64) (t := S1000000x128) 1 (m (xLoc d)) _ _ _ rfl
    (ix2 (pick (ixOf m d) (j 0)) (j 1)) (fun a => match a with | 0 => rfl | 1 => rfl)

end Host

/-! ## The precondition -/

/-- Where the stated precondition holds every index is the number of a row of the table. -/
theorem rows_named [FloatOps F] (ix : IVec Cert.Pre_rows_in_table.S16384 32) (x : FVec F Cert.Pre_rows_in_table.S1000000x64 .f32)
    [Cert.Pre_rows_in_table.Facts] (h : Cert.Pre_rows_in_table.fn ix x = fun _ => 1#1) (j : S16384.Idx) : (ix j).toNat < 1000000 := by
  have key : ∀ v : BitVec 32, IntOp.andi (IntOp.cmpi .sge v 0#32) (IntOp.cmpi .slt v 1000000#32) = 1#1 → v.toNat < 1000000 := by
    intro v e
    have hand : ∀ p q : Bool, IntOp.andi (BitVec.ofBool p) (BitVec.ofBool q) = BitVec.ofBool (p && q) := by decide
    have hone : ∀ p : Bool, (BitVec.ofBool p = 1#1) ↔ p = true := by decide
    simp only [IntOp.cmpi, hand, hone, Bool.and_eq_true, BitVec.sle_eq_decide, BitVec.slt_eq_decide,
      decide_eq_true_eq, BitVec.toInt_eq_toNat_cond, BitVec.toNat_ofNat, Nat.reducePow, Nat.reduceMod] at e
    omega
  have e := congrFun h (fun a => a.elim0)
  simp only [Cert.Pre_rows_in_table.fn] at e
  exact key _ (Host.reduce_andi_all _ _ _ _ _ e j)

end Cert.Proof.Launch

end
-- ==== Proof.Reference.lean ====
/-
  The reference: where every index is the number of a row, looking the rows up leaves at each entry the table's entry of that row.
-/
module

public import proofs.«01_k».proof.Proof.Values
public import proofs.«01_k».proof.Proof.Gen.ReferenceIdeal.Run
public import Idealize.ShloMosaic.Lib.ReduceAll
public import Idealize.ShloMosaic.Lib.Routing.Ops

@[expose] public section

noncomputable section

namespace Cert.Proof.Reference

open Cert.ReferenceIdeal Cert.ReferenceIdeal.Gen
open Idealize.ShloMosaic Idealize.ShloMosaic.ValueIdx Idealize.ShloMosaic.StableHlo.Predicate Idealize.SL.Sem

variable {F : FTy → Type}

/-- One 32-bit number at every place of a shape. -/
theorem everywhere {t : Shape} (h : S_.BroadcastsInDim t ![]) (w : BitVec 32) (j : t.Idx) :
    broadcastInDim t ![] h (constantI S_ 32 w) j = w :=
  bcast_scalar h h_S_ _ j

/-- A row number is not negative, so the reference does not count it from the table's end. -/
theorem not_wrapped (ix : IVec S16384 32) (hix : ∀ j, (ix j).toNat < 1000000) :
    select (cmpi .slt ix (broadcastInDim S16384 ![] bcast_S_S16384 (constantI S_ 32 0#32)))
      (addi ix (broadcastInDim S16384 ![] bcast_S_S16384 (constantI S_ 32 1000000#32))) ix = ix := by
  funext j
  have h0 : cmpi .slt ix (broadcastInDim S16384 ![] bcast_S_S16384 (constantI S_ 32 0#32)) j ≠ 1#1 := by
    show IntOp.cmpi .slt (ix j) (broadcastInDim S16384 ![] bcast_S_S16384 (constantI S_ 32 0#32) j) ≠ 1#1
    rw [everywhere, Ne, slt_iff_toNat (by have := hix j; omega) (by decide)]
    exact Nat.not_lt_zero _
  exact if_neg h0

/-- Row numbers pass the reference's two range tests, so none of its entries is the filler. -/
theorem in_range (I : IVec S16384x1 32) (hI : ∀ i, (I i).toNat < 1000000) (g n : S16384x64.Idx → F .f32) :
    select (broadcastInDim S16384x64 ![0] bcast_S16384_S16384x64_0
      (Host.reduce IntOp.andi
        (andi (cmpi .sge I (broadcastInDim S16384x1 ![] bcast_S_S16384x1 (constantI S_ 32 0#32)))
          (cmpi .sle I (broadcastInDim S16384x1 ![0, 1] bcast_S1x1_S16384x1_0_1
            (broadcastInDim S1x1 ![1] bcast_S1_S1x1_1 (constantI S1 32 999999#32)))))
        (constantI S_ 1 1#1) reducesTo_S16384x1_S16384_d1 h_S_)) g n = g := by
  have masked : ∀ M : IVec S16384 1, (∀ p, M p = 1#1) → select (broadcastInDim S16384x64 ![0] bcast_S16384_S16384x64_0 M) g n = g :=
    fun M hM => funext fun j => if_pos (hM _)
  refine masked _ fun p => Host.reduce_andi_one _ _ _ _ _ rfl fun i => ?_
  have hi := hI i
  have h0 : IntOp.cmpi .sge (I i) (broadcastInDim S16384x1 ![] bcast_S_S16384x1 (constantI S_ 32 0#32) i) = 1#1 := by
    rw [everywhere, sge_iff_toNat (by omega) (by decide)]
    exact Nat.zero_le _
  have h1 : IntOp.cmpi .sle (I i) 999999#32 = 1#1 := by
    rw [sle_iff_toNat (by omega) (by decide)]
    show (I i).toNat ≤ 999999
    omega
  exact (congrArg₂ IntOp.andi h0 h1).trans rfl

/-- The lookup's entry: row `n` of the result is the table's row that index `n` names. -/
theorem looked_up (ix : IVec S16384 32) (hix : ∀ j, (ix j).toNat < 1000000) (x : S1000000x64.Idx → F .f32) (n : Fin 16384) (k : Fin 64)
    (b : Fin 1000000) (hb : b.val = (ix (ix1 n)).toNat) :
    Host.gather gather_S1000000x64_S16384x1_S16384x64_1_0_n_n_0_1_164 x
      (broadcastInDim S16384x1 ![0] bcast_S16384_S16384x1_0 ix) (ix2 n k) = x (ix2 b k) := by
  refine Routing.gather_row _ rfl rfl rfl rfl rfl x _ n k b ?_ (by decide)
  rw [hb, BitVec.ofNat_toNat, BitVec.setWidth_eq]
  exact Routing.bcCol bcast_S16384_S16384x1_0 ix n

/-- The reference's result entry by entry: where every index is a row number, row `n` of the result is the row index `n` names. -/
theorem run_reference (m : (ℓ : Loc nD τ sig) → Buf (Elt F) ℓ) (ρ : Dev nD → PrngReg) [FloatOps F]
    (hix : ∀ (c : Dev nD) (j : S16384.Idx), ((m (c.tc.loc main_arg0) : IVec S16384 32) j).toNat < 1000000) :
    θ_run (defs (F := F)) (onTc (τ := τ) (main (F := F))) ⟨m, fun _ => 0, ρ⟩ fun r => ∀ c : Dev nD,
      (∀ j : S16384x64.Idx, (r.2.mem (c.tc.loc main_v0) : S16384x64.Idx → F .f32) j
        = (m (c.tc.loc main_arg1) : S1000000x64.Idx → F .f32) (ix2 (Values.pick (m (c.tc.loc main_arg0)) (j 0)) (j 1)))
      ∧ r.2.mem (c.tc.loc main_arg0) = m (c.tc.loc main_arg0) ∧ r.2.mem (c.tc.loc main_arg1) = m (c.tc.loc main_arg1) := by
  refine (θ_run defs _ _).mono (fun r h c => ⟨fun j => ?_, (h c).2⟩) (Value.run m ρ)
  refine (congrFun (h c).1 j).trans ?_
  rw [not_wrapped _ (hix c)]
  refine (congrFun (in_range _ (fun i => hix c _) _ _) j).trans ?_
  rw [eq_ix2 j]
  exact looked_up _ (hix c) _ _ _ _ (Nat.mod_eq_of_lt (hix c _))

end Cert.Proof.Reference

end
-- ==== Proof.lean ====
/-
  The claims: the kernel and the reference each run to the end, leave their arguments as they were and every counter at zero;
  and where every index is the number of a row, the two results are equal entry by entry.
-/
module

public import proofs.«01_k».proof.Proof.Main
public import proofs.«01_k».proof.Proof.Reference
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_rows_in_table
public import Idealize.ShloMosaic.Adequacy
public import Idealize.ShloMosaic.Init

@[expose] public section

noncomputable section

namespace Cert.Proof

open Idealize.ShloMosaic Idealize.SL.Sem Cert.Kernel

/-- The kernel as printed runs, keeps its arguments, and leaves every counter at zero: the one run of its text, on bit patterns. -/
theorem frame_kernel : Cert.quiescent_Kernel := fun m ρ hpre =>
  (θ_run Cert.KernelIdeal.defs _ _).mono (fun _ h => ⟨fun c => ⟨(h.1 c).1, (h.1 c).2.1⟩, h.2⟩)
    (Launch.run_main (F := Bits) m ρ fun d j => Launch.rows_named _ _ (hpre d) j)

/-- The kernel over exact numbers runs, keeps its arguments, and leaves every counter at zero. -/
theorem frame_kernel_ideal : Cert.quiescent_KernelIdeal := fun m ρ hpre =>
  (θ_run Cert.KernelIdeal.defs _ _).mono (fun _ h => ⟨fun c => ⟨(h.1 c).1, (h.1 c).2.1⟩, h.2⟩)
    (Launch.run_main (F := Ideal) m ρ fun d j => Launch.rows_named _ _ (hpre d) j)

/-- The reference runs from any memory, keeps its arguments, and has no counter to leave unsettled. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same of the memories the kernel's precondition allows. -/
theorem frame_reference_pre : Cert.quiescent_ReferenceIdeal_pre_rows_in_table := fun m ρ _ => frame_reference m ρ trivial

/-- The kernel's result is the reference's: both hold, at each entry, the table's entry of the row the index names. -/
theorem results_equal : Cert.algebraic_KernelIdeal_ReferenceIdeal := by
  intro m ρ m' ρ' hpre hagree
  have hix : ∀ d x, (Launch.ixOf m d x).toNat < 1000000 := fun d j => Launch.rows_named _ _ (hpre d) j
  refine ⟨fun c => Launch.cutOf m c, ?_, ?_⟩
  · exact (θ_run Cert.KernelIdeal.defs _ _).mono (fun _ h c => ⟨(h.1 c).2.2, (h.1 c).1, (h.1 c).2.1⟩)
      (Launch.run_main (F := Ideal) m ρ hix)
  · refine (θ_run Cert.ReferenceIdeal.defs _ _).mono (fun r h c => ⟨funext fun j => ?_, (h c).2⟩)
      (Reference.run_reference (F := Ideal) m' ρ' fun c j => by rw [(hagree c).1]; exact hix c j)
    refine ((h c).1 j).trans ?_
    rw [(hagree c).1, (hagree c).2]
    exact (Launch.cutOf_apply m c j).symm

theorem claim : Cert.Claim := ⟨Cert.Kernel.Gen.facts, Cert.KernelIdeal.Gen.facts, Cert.ReferenceIdeal.Gen.facts, Cert.Pre_rows_in_table.Gen.facts,
  frame_kernel, frame_kernel_ideal, frame_reference, frame_reference_pre, trivial, results_equal⟩

end Cert.Proof

end
